-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nodes_by_graph [hPre_nodes_by_graph : Cert.Pre_nodes_by_graph.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_by_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nodes_by_graph [hPre_nodes_by_graph : Cert.Pre_nodes_by_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nodes_by_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_nodes_by_graph [hKernelIdeal : Cert.KernelIdeal.Facts] [hPre_nodes_by_graph : Cert.Pre_nodes_by_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nodes_by_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_nodes_by_graph [hReferenceIdeal : Cert.ReferenceIdeal.Facts] [hPre_nodes_by_graph : Cert.Pre_nodes_by_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nodes_by_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_nodes_by_graph [hKernelIdeal : Cert.KernelIdeal.Facts] [hReferenceIdeal : Cert.ReferenceIdeal.Facts] [hPre_nodes_by_graph : Cert.Pre_nodes_by_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nodes_by_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_nodes_by_graph : Cert.Pre_nodes_by_graph.Facts),
    quiescent_Kernel (hKernel := hKernel)
    ∧ quiescent_KernelIdeal (hKernelIdeal := hKernelIdeal)
    ∧ quiescent_KernelIdeal_pre_nodes_by_graph (hKernelIdeal := hKernelIdeal) (hPre_nodes_by_graph := hPre_nodes_by_graph)
    ∧ quiescent_ReferenceIdeal (hReferenceIdeal := hReferenceIdeal)
    ∧ quiescent_ReferenceIdeal_pre_nodes_by_graph (hReferenceIdeal := hReferenceIdeal) (hPre_nodes_by_graph := hPre_nodes_by_graph)
    ∧ preserves_Kernel_KernelIdeal
    ∧ algebraic_KernelIdeal_ReferenceIdeal_pre_nodes_by_graph (hKernelIdeal := hKernelIdeal) (hReferenceIdeal := hReferenceIdeal) (hPre_nodes_by_graph := hPre_nodes_by_graph)
-- ==== Pre_nodes_by_graph.lean ====
abbrev S4x32768x67 : Shape := ⟨3, ![4, 32768, 67]⟩
abbrev S64x64 : Shape := ⟨2, ![64, 64]⟩
abbrev S64 : Shape := ⟨1, ![64]⟩
abbrev S1x128 : Shape := ⟨2, ![1, 128]⟩
abbrev S1 : Shape := ⟨1, ![1]⟩
abbrev S512x128 : Shape := ⟨2, ![512, 128]⟩
abbrev S512 : Shape := ⟨1, ![512]⟩
abbrev S1x32768x1 : Shape := ⟨3, ![1, 32768, 1]⟩
abbrev S32768 : Shape := ⟨1, ![32768]⟩
abbrev S16x2048 : Shape := ⟨2, ![16, 2048]⟩

class Facts : Prop where
  slices_S4x32768x67_S1x32768x1_0_0_64 : S4x32768x67.Slices ![0, 0, 64] S1x32768x1
  shapeCasts_S1x32768x1_S32768 : S1x32768x1.ShapeCasts S32768
  shapeCasts_S16x2048_S32768 : S16x2048.ShapeCasts S32768

variable [Facts]

def fn {F : FTy → Type} [FloatOps F] (main_arg0 : FVec F S4x32768x67 .f32) (main_arg1 : FVec F S64x64 .f32) (main_arg2 : FVec F S64 .f32) (main_arg3 : FVec F S64x64 .f32) (main_arg4 : FVec F S64 .f32) (main_arg5 : FVec F S1x128 .f32) (main_arg6 : FVec F S1 .f32) (main_arg7 : FVec F S512x128 .f32) (main_arg8 : FVec F S512x128 .f32) (main_arg9 : FVec F S512 .f32) (main_arg10 : FVec F S512 .f32) : IVec S32768 1 :=
  let main_v0 : FVec F S1x32768x1 .f32 := (extractStridedSlice S1x32768x1 ![0, 0, 64] · slices_S4x32768x67_S1x32768x1_0_0_64) main_arg0
  let main_v1 : FVec F S32768 .f32 := shapeCast S32768 main_v0 shapeCasts_S1x32768x1_S32768
  let main_v2 : IVec S32768 32 := fptosi 32 main_v1
  let main_v3 : IVec S16x2048 32 := iotaInDim S16x2048 32 0
  let main_v4 : IVec S32768 32 := shapeCast S32768 main_v3 shapeCasts_S16x2048_S32768
  let main_v5 : IVec S32768 1 := cmpi .eq main_v2 main_v4
  main_v5
-- ==== Kernel.lean ====
abbrev S4x32768x67 : Shape := ⟨3, ![4, 32768, 67]⟩
abbrev S64x64 : Shape := ⟨2, ![64, 64]⟩
abbrev S64 : Shape := ⟨1, ![64]⟩
abbrev S1x128 : Shape := ⟨2, ![1, 128]⟩
abbrev S1 : Shape := ⟨1, ![1]⟩
abbrev S512x128 : Shape := ⟨2, ![512, 128]⟩
abbrev S512 : Shape := ⟨1, ![512]⟩
abbrev S128x512 : Shape := ⟨2, ![128, 512]⟩
abbrev S_ : Shape := ⟨0, ![]⟩
abbrev S256 : Shape := ⟨1, ![256]⟩
abbrev S128 : Shape := ⟨1, ![128]⟩
abbrev S1x512 : Shape := ⟨2, ![1, 512]⟩
abbrev S64x512 : Shape := ⟨2, ![64, 512]⟩
abbrev S192x512 : Shape := ⟨2, ![192, 512]⟩
abbrev S1x2048 : Shape := ⟨2, ![1, 2048]⟩
abbrev S1x64 : Shape := ⟨2, ![1, 64]⟩
abbrev S1x1 : Shape := ⟨2, ![1, 1]⟩
abbrev S4x32768 : Shape := ⟨2, ![4, 32768]⟩
abbrev S4x4096x67 : Shape := ⟨3, ![4, 4096, 67]⟩
abbrev S4x4096 : Shape := ⟨2, ![4, 4096]⟩
abbrev S8192x256 : Shape := ⟨2, ![8192, 256]⟩
abbrev S256x512 : Shape := ⟨2, ![256, 512]⟩
abbrev S8192x64 : Shape := ⟨2, ![8192, 64]⟩
abbrev S4x4096x1 : Shape := ⟨3, ![4, 4096, 1]⟩
abbrev S4x2048x64 : Shape := ⟨3, ![4, 2048, 64]⟩
abbrev S4x2048 : Shape := ⟨2, ![4, 2048]⟩
abbrev S1x2048x64 : Shape := ⟨3, ![1, 2048, 64]⟩
abbrev S2048x64 : Shape := ⟨2, ![2048, 64]⟩
abbrev S4x64 : Shape := ⟨2, ![4, 64]⟩
abbrev S4x512 : Shape := ⟨2, ![4, 512]⟩
abbrev S2048x128 : Shape := ⟨2, ![2048, 128]⟩
abbrev S2048x256 : Shape := ⟨2, ![2048, 256]⟩
abbrev S2048x512 : Shape := ⟨2, ![2048, 512]⟩

abbrev nBuf : Space → Nat
  | .hbm => 48
  | .vmem => 18
  | .smem => 0
  | _ => 0

abbrev bufTy : (tb : Table) → Fin (tcTables nBuf tb) → BufTy
  | .hbm, ⟨0, _⟩ => ⟨S4x32768x67, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x128, .f32⟩
  | .hbm, ⟨6, _⟩ => ⟨S1, .f32⟩
  | .hbm, ⟨7, _⟩ => ⟨S512x128, .f32⟩
  | .hbm, ⟨8, _⟩ => ⟨S512x128, .f32⟩
  | .hbm, ⟨9, _⟩ => ⟨S512, .f32⟩
  | .hbm, ⟨10, _⟩ => ⟨S512, .f32⟩
  | .hbm, ⟨11, _⟩ => ⟨S64x64, .f32⟩
  | .hbm, ⟨12, _⟩ => ⟨S64x64, .f32⟩
  | .hbm, ⟨13, _⟩ => ⟨S128x512, .f32⟩
  | .hbm, ⟨14, _⟩ => ⟨S_, .f32⟩
  | .hbm, ⟨15, _⟩ => ⟨S256, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S512, .f32⟩
  | .hbm, ⟨21, _⟩ => ⟨S1x512, .f32⟩
  | .hbm, ⟨22, _⟩ => ⟨S64x512, .f32⟩
  | .hbm, ⟨23, _⟩ => ⟨S128x512, .f32⟩
  | .hbm, ⟨24, _⟩ => ⟨S_, .f32⟩
  | .hbm, ⟨25, _⟩ => ⟨S128x512, .f32⟩
  | .hbm, ⟨26, _⟩ => ⟨S128x512, .f32⟩
  | .hbm, ⟨27, _⟩ => ⟨S192x512, .f32⟩
  | .hbm, ⟨28, _⟩ => ⟨S1x512, .f32⟩
  | .hbm, ⟨29, _⟩ => ⟨S192x512, .f32⟩
  | .hbm, ⟨30, _⟩ => ⟨S192x512, .f32⟩
  | .hbm, ⟨31, _⟩ => ⟨S64x512, .f32⟩
  | .hbm, ⟨32, _⟩ => ⟨S1x512, .f32⟩
  | .hbm, ⟨33, _⟩ => ⟨S64x512, .f32⟩
  | .hbm, ⟨34, _⟩ => ⟨S64x512, .f32⟩
  | .hbm, ⟨35, _⟩ => ⟨S512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S_, .f32⟩
  | .hbm, ⟨40, _⟩ => ⟨S1x2048, .f32⟩
  | .hbm, ⟨41, _⟩ => ⟨S1x64, .f32⟩
  | .hbm, ⟨42, _⟩ => ⟨S1x64, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x1, .f32⟩
  | .hbm, ⟨47, _⟩ => ⟨S4x32768, .f32⟩
  | .local _ .vmem, ⟨0, _⟩ => ⟨S4x4096x67, .f32⟩
  | .local _ .vmem, ⟨1, _⟩ => ⟨S4x4096x67, .f32⟩
  | .local _ .vmem, ⟨2, _⟩ => ⟨S1x2048, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x128, .f32⟩
  | .local _ .vmem, ⟨8, _⟩ => ⟨S1x1, .f32⟩
  | .local _ .vmem, ⟨9, _⟩ => ⟨S192x512, .f32⟩
  | .local _ .vmem, ⟨10, _⟩ => ⟨S64x512, .f32⟩
  | .local _ .vmem, ⟨11, _⟩ => ⟨S1x512, .f32⟩
  | .local _ .vmem, ⟨12, _⟩ => ⟨S4x4096, .f32⟩
  | .local _ .vmem, ⟨13, _⟩ => ⟨S4x4096, .f32⟩
  | .local _ .vmem, ⟨14, _⟩ => ⟨S8192x256, .f32⟩
  | .local _ .vmem, ⟨15, _⟩ => ⟨S8192x256, .f32⟩
  | .local _ .vmem, ⟨16, _⟩ => ⟨S256x512, .f32⟩
  | .local _ .vmem, ⟨17, _⟩ => ⟨S256x512, .f32⟩
  | _, _ => ⟨S4x32768x67, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x4096x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x32768x67 : Shape := ⟨3, ![4, 32768, 67]⟩
abbrev S64x64 : Shape := ⟨2, ![64, 64]⟩
abbrev S64 : Shape := ⟨1, ![64]⟩
abbrev S1x128 : Shape := ⟨2, ![1, 128]⟩
abbrev S1 : Shape := ⟨1, ![1]⟩
abbrev S512x128 : Shape := ⟨2, ![512, 128]⟩
abbrev S512 : Shape := ⟨1, ![512]⟩
abbrev S4x32768x64 : Shape := ⟨3, ![4, 32768, 64]⟩
abbrev S4x32768x1 : Shape := ⟨3, ![4, 32768, 1]⟩
abbrev S4x32768 : Shape := ⟨2, ![4, 32768]⟩
abbrev S_ : Shape := ⟨0, ![]⟩
abbrev S1x32768 : Shape := ⟨2, ![1, 32768]⟩
abbrev S32768 : Shape := ⟨1, ![32768]⟩
abbrev S16x64 : Shape := ⟨2, ![16, 64]⟩
abbrev S32768x1 : Shape := ⟨2, ![32768, 1]⟩
abbrev S4x16x64 : Shape := ⟨3, ![4, 16, 64]⟩
abbrev S16 : Shape := ⟨1, ![16]⟩
abbrev S1x16x1 : Shape := ⟨3, ![1, 16, 1]⟩
abbrev S4x16x2048x64 : Shape := ⟨4, ![4, 16, 2048, 64]⟩
abbrev S1x1x64 : Shape := ⟨3, ![1, 1, 64]⟩
abbrev S4x32768x128 : Shape := ⟨3, ![4, 32768, 128]⟩
abbrev S32768x128 : Shape := ⟨2, ![32768, 128]⟩
abbrev S1x32768x128 : Shape := ⟨3, ![1, 32768, 128]⟩
abbrev S128x512 : Shape := ⟨2, ![128, 512]⟩
abbrev S32768x512 : Shape := ⟨2, ![32768, 512]⟩
abbrev S1x512 : Shape := ⟨2, ![1, 512]⟩
abbrev S128x1 : Shape := ⟨2, ![128, 1]⟩
abbrev S1x1x1 : Shape := ⟨3, ![1, 1, 1]⟩

abbrev nBuf : Space → Nat
  | .hbm => 262
  | .vmem => 0
  | .smem => 0
  | _ => 0

abbrev hbmTy0_0 (i : Nat) : BufTy := match i % 128 with
  | 0 => ⟨S4x32768x67, .f32⟩
  | 1 => ⟨S64x64, .f32⟩
  | 2 => ⟨S64, .f32⟩
  | 3 => ⟨S64x64, .f32⟩
  | 4 => ⟨S64, .f32⟩
  | 5 => ⟨S1x128, .f32⟩
  | 6 => ⟨S1, .f32⟩
  | 7 => ⟨S512x128, .f32⟩
  | 8 => ⟨S512x128, .f32⟩
  | 9 => ⟨S512, .f32⟩
  | 10 => ⟨S512, .f32⟩
  | 11 => ⟨S4x32768x64, .f32⟩
  | 12 => ⟨S4x32768x1, .f32⟩
  | 13 => ⟨S4x32768, .f32⟩
  | 14 => ⟨S4x32768, .i32⟩
  | 15 => ⟨S4x32768x1, .f32⟩
  | 16 => ⟨S4x32768, .f32⟩
  | 17 => ⟨S_, .f32⟩
  | 18 => ⟨S4x32768, .f32⟩
  | 19 => ⟨S4x32768, .i1⟩
  | 20 => ⟨S1x32768, .i32⟩
  | 21 => ⟨S32768, .i32⟩
  | 22 => ⟨S_, .f32⟩
  | 23 => ⟨S16x64, .f32⟩
  | 24 => ⟨S32768x1, .i32⟩
  | 25 => ⟨S4x16x64, .f32⟩
  | 26 => ⟨S4x16x64, .f32⟩
  | 27 => ⟨S_, .f32⟩
  | 28 => ⟨S32768, .f32⟩
  | 29 => ⟨S_, .f32⟩
  | 30 => ⟨S16, .f32⟩
  | 31 => ⟨S32768x1, .i32⟩
  | 32 => ⟨S16, .f32⟩
  | 33 => ⟨S1x16x1, .f32⟩
  | 34 => ⟨S4x16x64, .f32⟩
  | 35 => ⟨S4x16x64, .f32⟩
  | 36 => ⟨S4x16x2048x64, .f32⟩
  | 37 => ⟨S4x32768x64, .f32⟩
  | 38 => ⟨S64x64, .f32⟩
  | 39 => ⟨S4x32768x64, .f32⟩
  | 40 => ⟨S1x1x64, .f32⟩
  | 41 => ⟨S4x32768x64, .f32⟩
  | 42 => ⟨S4x32768x64, .f32⟩
  | 43 => ⟨S64x64, .f32⟩
  | 44 => ⟨S4x32768x64, .f32⟩
  | 45 => ⟨S1x1x64, .f32⟩
  | 46 => ⟨S4x32768x64, .f32⟩
  | 47 => ⟨S4x32768x64, .f32⟩
  | 48 => ⟨S4x32768x128, .f32⟩
  | 49 => ⟨S_, .f32⟩
  | 50 => ⟨S4x32768x128, .f32⟩
  | 51 => ⟨S4x32768x128, .f32⟩
  | 52 => ⟨S_, .f32⟩
  | 53 => ⟨S32768x128, .f32⟩
  | 54 => ⟨S_, .f32⟩
  | 55 => ⟨S32768x128, .f32⟩
  | 56 => ⟨S1x32768x128, .f32⟩
  | 57 => ⟨S32768x128, .f32⟩
  | 58 => ⟨S128x512, .f32⟩
  | 59 => ⟨S32768x512, .f32⟩
  | 60 => ⟨S1x512, .f32⟩
  | 61 => ⟨S32768x512, .f32⟩
  | 62 => ⟨S32768x512, .f32⟩
  | 63 => ⟨S128x512, .f32⟩
  | 64 => ⟨S32768x512, .f32⟩
  | 65 => ⟨S32768x512, .f32⟩
  | 66 => ⟨S1x512, .f32⟩
  | 67 => ⟨S32768x512, .f32⟩
  | 68 => ⟨S32768x512, .f32⟩
  | 69 => ⟨S32768x128, .f32⟩
  | 70 => ⟨S32768x128, .f32⟩
  | 71 => ⟨S32768x128, .f32⟩
  | 72 => ⟨S32768x128, .f32⟩
  | 73 => ⟨S32768x128, .f32⟩
  | 74 => ⟨S32768x128, .f32⟩
  | 75 => ⟨S_, .f32⟩
  | 76 => ⟨S32768x128, .f32⟩
  | 77 => ⟨S32768x128, .f32⟩
  | 78 => ⟨S_, .f32⟩
  | 79 => ⟨S32768x128, .f32⟩
  | 80 => ⟨S32768x128, .f32⟩
  | 81 => ⟨S32768x128, .f32⟩
  | 82 => ⟨S32768x128, .f32⟩
  | 83 => ⟨S_, .f32⟩
  | 84 => ⟨S32768x128, .f32⟩
  | 85 => ⟨S32768x128, .f32⟩
  | 86 => ⟨S_, .f32⟩
  | 87 => ⟨S32768x128, .f32⟩
  | 88 => ⟨S32768x128, .f32⟩
  | 89 => ⟨S32768x128, .f32⟩
  | 90 => ⟨S32768x128, .f32⟩
  | 91 => ⟨S32768x128, .f32⟩
  | 92 => ⟨S_, .f32⟩
  | 93 => ⟨S32768x128, .f32⟩
  | 94 => ⟨S32768x128, .f32⟩
  | 95 => ⟨S_, .f32⟩
  | 96 => ⟨S32768x128, .f32⟩
  | 97 => ⟨S32768x128, .f32⟩
  | 98 => ⟨S32768x128, .f32⟩
  | 99 => ⟨S32768x128, .f32⟩
  | 100 => ⟨S32768x128, .f32⟩
  | 101 => ⟨S32768x128, .f32⟩
  | 102 => ⟨S32768x128, .f32⟩
  | 103 => ⟨S1x32768x128, .f32⟩
  | 104 => ⟨S32768x128, .f32⟩
  | 105 => ⟨S128x512, .f32⟩
  | 106 => ⟨S32768x512, .f32⟩
  | 107 => ⟨S1x512, .f32⟩
  | 108 => ⟨S32768x512, .f32⟩
  | 109 => ⟨S32768x512, .f32⟩
  | 110 => ⟨S128x512, .f32⟩
  | 111 => ⟨S32768x512, .f32⟩
  | 112 => ⟨S32768x512, .f32⟩
  | 113 => ⟨S1x512, .f32⟩
  | 114 => ⟨S32768x512, .f32⟩
  | 115 => ⟨S32768x512, .f32⟩
  | 116 => ⟨S32768x128, .f32⟩
  | 117 => ⟨S32768x128, .f32⟩
  | 118 => ⟨S32768x128, .f32⟩
  | 119 => ⟨S32768x128, .f32⟩
  | 120 => ⟨S32768x128, .f32⟩
  | 121 => ⟨S32768x128, .f32⟩
  | 122 => ⟨S_, .f32⟩
  | 123 => ⟨S32768x128, .f32⟩
  | 124 => ⟨S32768x128, .f32⟩
  | 125 => ⟨S_, .f32⟩
  | 126 => ⟨S32768x128, .f32⟩
  | 127 => ⟨S32768x128, .f32⟩
  | _ => ⟨S4x32768x67, .f32⟩

abbrev hbmTy0_1 (i : Nat) : BufTy := match i % 128 with
  | 0 => ⟨S32768x128, .f32⟩
  | 1 => ⟨S32768x128, .f32⟩
  | 2 => ⟨S_, .f32⟩
  | 3 => ⟨S32768x128, .f32⟩
  | 4 => ⟨S32768x128, .f32⟩
  | 5 => ⟨S_, .f32⟩
  | 6 => ⟨S32768x128, .f32⟩
  | 7 => ⟨S32768x128, .f32⟩
  | 8 => ⟨S32768x128, .f32⟩
  | 9 => ⟨S32768x128, .f32⟩
  | 10 => ⟨S32768x128, .f32⟩
  | 11 => ⟨S_, .f32⟩
  | 12 => ⟨S32768x128, .f32⟩
  | 13 => ⟨S32768x128, .f32⟩
  | 14 => ⟨S_, .f32⟩
  | 15 => ⟨S32768x128, .f32⟩
  | 16 => ⟨S32768x128, .f32⟩
  | 17 => ⟨S32768x128, .f32⟩
  | 18 => ⟨S32768x128, .f32⟩
  | 19 => ⟨S32768x128, .f32⟩
  | 20 => ⟨S32768x128, .f32⟩
  | 21 => ⟨S32768x128, .f32⟩
  | 22 => ⟨S1x32768x128, .f32⟩
  | 23 => ⟨S32768x128, .f32⟩
  | 24 => ⟨S128x512, .f32⟩
  | 25 => ⟨S32768x512, .f32⟩
  | 26 => ⟨S1x512, .f32⟩
  | 27 => ⟨S32768x512, .f32⟩
  | 28 => ⟨S32768x512, .f32⟩
  | 29 => ⟨S128x512, .f32⟩
  | 30 => ⟨S32768x512, .f32⟩
  | 31 => ⟨S32768x512, .f32⟩
  | 32 => ⟨S1x512, .f32⟩
  | 33 => ⟨S32768x512, .f32⟩
  | 34 => ⟨S32768x512, .f32⟩
  | 35 => ⟨S32768x128, .f32⟩
  | 36 => ⟨S32768x128, .f32⟩
  | 37 => ⟨S32768x128, .f32⟩
  | 38 => ⟨S32768x128, .f32⟩
  | 39 => ⟨S32768x128, .f32⟩
  | 40 => ⟨S32768x128, .f32⟩
  | 41 => ⟨S_, .f32⟩
  | 42 => ⟨S32768x128, .f32⟩
  | 43 => ⟨S32768x128, .f32⟩
  | 44 => ⟨S_, .f32⟩
  | 45 => ⟨S32768x128, .f32⟩
  | 46 => ⟨S32768x128, .f32⟩
  | 47 => ⟨S32768x128, .f32⟩
  | 48 => ⟨S32768x128, .f32⟩
  | 49 => ⟨S_, .f32⟩
  | 50 => ⟨S32768x128, .f32⟩
  | 51 => ⟨S32768x128, .f32⟩
  | 52 => ⟨S_, .f32⟩
  | 53 => ⟨S32768x128, .f32⟩
  | 54 => ⟨S32768x128, .f32⟩
  | 55 => ⟨S32768x128, .f32⟩
  | 56 => ⟨S32768x128, .f32⟩
  | 57 => ⟨S32768x128, .f32⟩
  | 58 => ⟨S_, .f32⟩
  | 59 => ⟨S32768x128, .f32⟩
  | 60 => ⟨S32768x128, .f32⟩
  | 61 => ⟨S_, .f32⟩
  | 62 => ⟨S32768x128, .f32⟩
  | 63 => ⟨S32768x128, .f32⟩
  | 64 => ⟨S32768x128, .f32⟩
  | 65 => ⟨S32768x128, .f32⟩
  | 66 => ⟨S32768x128, .f32⟩
  | 67 => ⟨S32768x128, .f32⟩
  | 68 => ⟨S32768x128, .f32⟩
  | 69 => ⟨S1x32768x128, .f32⟩
  | 70 => ⟨S32768x128, .f32⟩
  | 71 => ⟨S128x512, .f32⟩
  | 72 => ⟨S32768x512, .f32⟩
  | 73 => ⟨S1x512, .f32⟩
  | 74 => ⟨S32768x512, .f32⟩
  | 75 => ⟨S32768x512, .f32⟩
  | 76 => ⟨S128x512, .f32⟩
  | 77 => ⟨S32768x512, .f32⟩
  | 78 => ⟨S32768x512, .f32⟩
  | 79 => ⟨S1x512, .f32⟩
  | 80 => ⟨S32768x512, .f32⟩
  | 81 => ⟨S32768x512, .f32⟩
  | 82 => ⟨S32768x128, .f32⟩
  | 83 => ⟨S32768x128, .f32⟩
  | 84 => ⟨S32768x128, .f32⟩
  | 85 => ⟨S32768x128, .f32⟩
  | 86 => ⟨S32768x128, .f32⟩
  | 87 => ⟨S32768x128, .f32⟩
  | 88 => ⟨S_, .f32⟩
  | 89 => ⟨S32768x128, .f32⟩
  | 90 => ⟨S32768x128, .f32⟩
  | 91 => ⟨S_, .f32⟩
  | 92 => ⟨S32768x128, .f32⟩
  | 93 => ⟨S32768x128, .f32⟩
  | 94 => ⟨S32768x128, .f32⟩
  | 95 => ⟨S32768x128, .f32⟩
  | 96 => ⟨S_, .f32⟩
  | 97 => ⟨S32768x128, .f32⟩
  | 98 => ⟨S32768x128, .f32⟩
  | 99 => ⟨S_, .f32⟩
  | 100 => ⟨S32768x128, .f32⟩
  | 101 => ⟨S32768x128, .f32⟩
  | 102 => ⟨S32768x128, .f32⟩
  | 103 => ⟨S32768x128, .f32⟩
  | 104 => ⟨S32768x128, .f32⟩
  | 105 => ⟨S_, .f32⟩
  | 106 => ⟨S32768x128, .f32⟩
  | 107 => ⟨S32768x128, .f32⟩
  | 108 => ⟨S_, .f32⟩
  | 109 => ⟨S32768x128, .f32⟩
  | 110 => ⟨S32768x128, .f32⟩
  | 111 => ⟨S32768x128, .f32⟩
  | 112 => ⟨S32768x128, .f32⟩
  | 113 => ⟨S32768x128, .f32⟩
  | 114 => ⟨S32768x128, .f32⟩
  | 115 => ⟨S32768x128, .f32⟩
  | 116 => ⟨S1x32768x128, .f32⟩
  | 117 => ⟨S1x32768x128, .f32⟩
  | 118 => ⟨S1x32768x128, .f32⟩
  | 119 => ⟨S1x32768x128, .f32⟩
  | 120 => ⟨S4x32768x128, .f32⟩
  | 121 => ⟨S_, .f32⟩
  | 122 => ⟨S4x32768x128, .f32⟩
  | 123 => ⟨S4x32768x128, .f32⟩
  | 124 => ⟨S128x1, .f32⟩
  | 125 => ⟨S4x32768x1, .f32⟩
  | 126 => ⟨S1x1x1, .f32⟩
  | 127 => ⟨S4x32768x1, .f32⟩
  | _ => ⟨S4x32768x67, .f32⟩

abbrev hbmTy0_2 (i : Nat) : BufTy := match i % 128 with
  | 0 => ⟨S4x32768x1, .f32⟩
  | 1 => ⟨S4x32768, .f32⟩
  | 2 => ⟨S_, .f32⟩
  | 3 => ⟨S_, .f32⟩
  | 4 => ⟨S4x32768, .f32⟩
  | 5 => ⟨S4x32768, .f32⟩
  | _ => ⟨S4x32768x67, .f32⟩

abbrev hbmTy (i : Nat) : BufTy := match i / 128 with
  | 0 => hbmTy0_0 i
  | 1 => hbmTy0_1 i
  | 2 => hbmTy0_2 i
  | _ => ⟨S4x32768x67, .f32⟩

abbrev bufTy : (tb : Table) → Fin (tcTables nBuf tb) → BufTy
  | .hbm, ⟨i, _⟩ => hbmTy i
  | _, _ => ⟨S4x32768x67, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_5 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_9 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_11 : Ref sig .tc := ⟨.hbm, 122, rfl⟩
abbrev main_v97 : Ref sig .tc := ⟨.hbm, 123, rfl⟩
abbrev main_v98 : Ref sig .tc := ⟨.hbm, 124, rfl⟩
abbrev main_cst_12 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_13 : Ref sig .tc := ⟨.hbm, 130, rfl⟩
abbrev main_v103 : Ref sig .tc := ⟨.hbm, 131, rfl⟩
abbrev main_v104 : Ref sig .tc := ⟨.hbm, 132, rfl⟩
abbrev main_cst_14 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_15 : Ref sig .tc := ⟨.hbm, 139, rfl⟩
abbrev main_v110 : Ref sig .tc := ⟨.hbm, 140, rfl⟩
abbrev main_v111 : Ref sig .tc := ⟨.hbm, 141, rfl⟩
abbrev main_cst_16 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_17 : Ref sig .tc := ⟨.hbm, 169, rfl⟩
abbrev main_v138 : Ref sig .tc := ⟨.hbm, 170, rfl⟩
abbrev main_v139 : Ref sig .tc := ⟨.hbm, 171, rfl⟩
abbrev main_cst_18 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_19 : Ref sig .tc := ⟨.hbm, 177, rfl⟩
abbrev main_v144 : Ref sig .tc := ⟨.hbm, 178, rfl⟩
abbrev main_v145 : Ref sig .tc := ⟨.hbm, 179, rfl⟩
abbrev main_cst_20 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_21 : Ref sig .tc := ⟨.hbm, 186, rfl⟩
abbrev main_v151 : Ref sig .tc := ⟨.hbm, 187, rfl⟩
abbrev main_v152 : Ref sig .tc := ⟨.hbm, 188, rfl⟩
abbrev main_cst_22 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_cst_23 : Ref sig .tc := ⟨.hbm, 216, rfl⟩
abbrev main_v179 : Ref sig .tc := ⟨.hbm, 217, rfl⟩
abbrev main_v180 : Ref sig .tc := ⟨.hbm, 218, rfl⟩
abbrev main_cst_24 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_cst_25 : Ref sig .tc := ⟨.hbm, 224, rfl⟩
abbrev main_v185 : Ref sig .tc := ⟨.hbm, 225, rfl⟩
abbrev main_v186 : Ref sig .tc := ⟨.hbm, 226, rfl⟩
abbrev main_cst_26 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_cst_27 : Ref sig .tc := ⟨.hbm, 233, rfl⟩
abbrev main_v192 : Ref sig .tc := ⟨.hbm, 234, rfl⟩
abbrev main_v193 : Ref sig .tc := ⟨.hbm, 235, rfl⟩
abbrev main_cst_28 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_call1_cst : Ref sig .tc := ⟨.hbm, 249, rfl⟩
abbrev main_call1_v0 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_cst_29 : Ref sig .tc := ⟨.hbm, 258, rfl⟩
abbrev main_call2_v0 : Ref sig .tc := ⟨.hbm, 259, rfl⟩
abbrev main_call2_v1 : Ref sig .tc := ⟨.hbm, 260, rfl⟩
abbrev main_v213 : Ref sig .tc := ⟨.hbm, 261, rfl⟩

abbrev nD : Nat := 1
abbrev τ : Topo := Topo.v7x

variable {F : FTy → Type} [FloatOps F]
-- ==== Proof.Scalar.lean ====
module

public import Idealize.ShloMosaic.Lib.Pointwise

@[expose] public section

/-! The arithmetic of extended reals that makes the kernel's gates the reference's: a sigmoid by `tanh`
of half the argument, and what scaling by one half (or by two) does to sums, maxima and products. No program
is named here. -/

noncomputable section

namespace Cert.Lstm

open Idealize.ShloMosaic

/-- The extended real one half. -/
def half : EReal := ((1 / 2 : ℝ) : EReal)

/-- The f32 pattern `0x3F000000` is one half. -/
theorem ofBits_half : Ideal.ofBits .f32 0x3F000000#32 = half := by
  unfold half
  simp [Ideal.ofBits, Ideal.ieee, -EReal.coe_mul]; norm_num

/-- The f32 pattern `0x3A000000` is the real `1 / 2048`. -/
theorem ofBits_inv2048 : Ideal.ofBits .f32 0x3A000000#32 = ((1 / 2048 : ℝ) : EReal) := by
  simp [Ideal.ofBits, Ideal.ieee, -EReal.coe_mul]; norm_num

/-- The f32 pattern `0xFF800000` is `⊥`. -/
theorem ofBits_neg_inf : Ideal.ofBits .f32 0xFF800000#32 = ⊥ := by
  simp [Ideal.ofBits, Ideal.ieee]

/-- One half is not negative. -/
theorem half_nonneg : 0 ≤ half := EReal.coe_nonneg.mpr (by norm_num)
/-- One half is not `⊤`. -/
theorem half_ne_top : half ≠ ⊤ := EReal.coe_ne_top _
/-- One half is not `⊥`. -/
theorem half_ne_bot : half ≠ ⊥ := EReal.coe_ne_bot _

/-- Two halves are one. -/
theorem half_mul_two : half * 2 = 1 := by
  unfold half
  rw [show (2 : EReal) = ((2 : ℝ) : EReal) from rfl, ← EReal.coe_mul]
  norm_num

/-- A finite non-negative factor distributes over a sum, on the right. -/
theorem add_mul_fin {s : EReal} (h0 : 0 ≤ s) (h1 : s ≠ ⊤) (x y : EReal) : (x + y) * s = x * s + y * s :=
  EReal.right_distrib_of_nonneg_of_ne_top h0 h1 x y

/-- A finite non-negative factor distributes over a finite sum. -/
theorem sum_mul_fin {s : EReal} (h0 : 0 ≤ s) (h1 : s ≠ ⊤) {ι : Type*} (t : Finset ι) (f : ι → EReal) :
    (∑ i ∈ t, f i) * s = ∑ i ∈ t, f i * s := by
  classical
  induction t using Finset.induction_on with
  | empty => simp
  | insert a t ha ih => rw [Finset.sum_insert ha, Finset.sum_insert ha, add_mul_fin h0 h1, ih]

/-- Doubling commutes with the maximum with zero. -/
theorem max_mul_two (x : EReal) : max (x * 2) 0 = max x 0 * 2 := by
  have h2 : (0 : EReal) ≤ 2 := by norm_num
  rcases le_total x 0 with h | h
  · rw [max_eq_right h, max_eq_right (by
      have := mul_le_mul_of_nonneg_right h h2
      simpa using this), zero_mul]
  · rw [max_eq_left h, max_eq_left (mul_nonneg h h2)]

/-- The sigmoid, as the reference writes it. -/
def sig (x : EReal) : EReal := Ideal.div 1 (1 + Ideal.exp (-x))

/-- The sigmoid of a real number, by the hyperbolic tangent of its half. -/
theorem sig_real (r : ℝ) : 1 / (1 + Real.exp (-r)) = (1 + Real.tanh (r * (1 / 2))) * (1 / 2) := by
  rw [Real.tanh_eq_sinh_div_cosh, Real.sinh_eq, Real.cosh_eq]
  have h : Real.exp (-r) = Real.exp (-(r * (1 / 2))) * Real.exp (-(r * (1 / 2))) := by
    rw [← Real.exp_add]; congr 1; ring
  have hi : Real.exp (-(r * (1 / 2))) = (Real.exp (r * (1 / 2)))⁻¹ := Real.exp_neg _
  rw [h, hi]
  have hp := Real.exp_pos (r * (1 / 2))
  set e := Real.exp (r * (1 / 2)) with he
  have : e ≠ 0 := hp.ne'
  field_simp
  ring

/-- The sigmoid on the extended reals, by the hyperbolic tangent of half the argument: at the infinities both
sides are the limits 1 and 0. -/
theorem sig_eq_tanh (x : EReal) : sig x = (1 + Ideal.tanh (x * half)) * half := by
  unfold sig
  induction x using EReal.rec with
  | bot =>
    rw [EReal.neg_bot, Ideal.exp_top, EReal.bot_mul_of_pos (by unfold half; exact EReal.coe_pos.mpr (by norm_num)), Ideal.tanh_bot]
    rw [EReal.add_top_of_ne_bot (by decide), Ideal.div, if_neg (by decide), EReal.inv_top, mul_zero]
    rw [show (1 : EReal) + -1 = 0 from by
      rw [show (1 : EReal) = ((1 : ℝ) : EReal) from rfl, ← EReal.coe_neg, ← EReal.coe_add]; norm_num, zero_mul]
  | top =>
    rw [EReal.neg_top, Ideal.exp_bot, EReal.top_mul_of_pos (by unfold half; exact EReal.coe_pos.mpr (by norm_num)), Ideal.tanh_top, add_zero]
    rw [Ideal.div, if_neg one_ne_zero]
    unfold half
    rw [show (1 : EReal) = ((1 : ℝ) : EReal) from rfl, ← EReal.coe_inv, ← EReal.coe_mul, ← EReal.coe_add, ← EReal.coe_mul]
    norm_num
  | coe r =>
    unfold half
    rw [← EReal.coe_neg, Ideal.exp_coe, ← EReal.coe_mul, Ideal.tanh_coe]
    rw [show (1 : EReal) = ((1 : ℝ) : EReal) from rfl, ← EReal.coe_add, ← EReal.coe_add, ← EReal.coe_mul, Ideal.div, if_neg (by
      have := Real.exp_pos (-r)
      intro h
      have := EReal.coe_eq_zero.mp h
      linarith), ← EReal.coe_inv, ← EReal.coe_mul, ← sig_real, one_mul, one_div]

end Cert.Lstm

end
-- ==== Proof.Spec.lean ====
module

public import proofs.«01_k».proof.Proof.Scalar

@[expose] public section

/-! The function both programs compute, for one node of one graph: four steps of a long short-term memory
over rows of features, and the score of each step. `st` is the reference's recurrence. `kst` is the kernel's: one
product over 256 columns per step, gates read by `tanh`, twice the hidden row carried. `kst_eq` says the two
agree. No program is named here. -/

noncomputable section

namespace Cert.Lstm

open Idealize.ShloMosaic

/-- The parameters, as the arguments hold them: a layer's matrix is indexed output first. -/
structure Weights where
  W6 : Fin 64 → Fin 64 → EReal
  b6 : Fin 64 → EReal
  W7 : Fin 64 → Fin 64 → EReal
  b7 : Fin 64 → EReal
  W5 : Fin 128 → EReal
  b5 : EReal
  Wih : Fin 512 → Fin 128 → EReal
  Whh : Fin 512 → Fin 128 → EReal
  bih : Fin 512 → EReal
  bhh : Fin 512 → EReal

/-- The graph's half of the features: the linear layer of the graph's mean row, cut at zero. -/
def globRow (w : Weights) (mean : Fin 64 → EReal) (k : Fin 64) : EReal := max (∑ j, mean j * w.W6 k j + w.b6 k) 0

/-- The node's half of the features: the linear layer of the node's own row, cut at zero. -/
def locRow (w : Weights) (mu : Fin 64 → EReal) (k : Fin 64) : EReal := max (∑ j, mu j * w.W7 k j + w.b7 k) 0

/-- A node's features: the graph's half, then its own. -/
def feat (g l : Fin 64 → EReal) (k : Fin 128) : EReal :=
  if h : k.val < 64 then g ⟨k.val, h⟩ else l ⟨k.val - 64, by omega⟩

/-- The four gates' arguments, in a row of 512. -/
def gate (w : Weights) (x h : Fin 128 → EReal) (r : Fin 512) : EReal :=
  ((∑ k, x k * w.Wih r k + w.bih r) + ∑ k, h k * w.Whh r k) + w.bhh r

/-- The place of entry `k` of the quarter that starts at `o`. -/
def quarter (o : ℕ) (ho : o + 128 ≤ 512) (k : Fin 128) : Fin 512 := ⟨o + k.val, by omega⟩

/-- The new cell row. -/
def cell (g : Fin 512 → EReal) (c : Fin 128 → EReal) (k : Fin 128) : EReal :=
  sig (g (quarter 128 (by decide) k)) * c k + sig (g (quarter 0 (by decide) k)) * Ideal.tanh (g (quarter 256 (by decide) k))

/-- The new hidden row. -/
def hid (g : Fin 512 → EReal) (c : Fin 128 → EReal) (k : Fin 128) : EReal :=
  sig (g (quarter 384 (by decide) k)) * Ideal.tanh (c k)

/-- The cell row and the hidden row after `t` steps. -/
def st (w : Weights) (x : ℕ → Fin 128 → EReal) : ℕ → (Fin 128 → EReal) × (Fin 128 → EReal)
  | 0 => (fun _ => 0, fun _ => 0)
  | t + 1 => (cell (gate w (x t) (st w x t).2) (st w x t).1,
      hid (gate w (x t) (st w x t).2) (cell (gate w (x t) (st w x t).2) (st w x t).1))

/-- A hidden row's score. -/
def score (w : Weights) (h : Fin 128 → EReal) : EReal := ∑ k, max (h k) 0 * w.W5 k + w.b5

/-! ## The kernel's form -/

/-- A row of the kernel's left matrix: 64 features of the node, twice the hidden row, a one, and zeros. -/
def xrow (xl : Fin 64 → EReal) (h : Fin 128 → EReal) (k : Fin 256) : EReal :=
  if h1 : k.val < 64 then xl ⟨k.val, h1⟩ else if h2 : k.val < 192 then h ⟨k.val - 64, by omega⟩ else if k.val = 192 then 1 else 0

/-- An entry of the kernel's right matrix: the scaled weights, the graph's own gate row, and zeros. -/
def wcol (wk : Fin 192 → Fin 512 → EReal) (gb : Fin 512 → EReal) (k : Fin 256) (r : Fin 512) : EReal :=
  if h1 : k.val < 192 then wk ⟨k.val, h1⟩ r else if k.val = 192 then gb r else 0

/-- The kernel's gate row. -/
def kgate (wk : Fin 192 → Fin 512 → EReal) (gb : Fin 512 → EReal) (xl : Fin 64 → EReal) (h : Fin 128 → EReal) (r : Fin 512) : EReal :=
  ∑ k : Fin 256, xrow xl h k * wcol wk gb k r

/-- The kernel's new cell entry, from the old one. -/
def kcell (g : Fin 512 → EReal) (c : EReal) (k : Fin 128) : EReal :=
  ((1 + Ideal.tanh (g (quarter 128 (by decide) k))) * c
    + (1 + Ideal.tanh (g (quarter 0 (by decide) k))) * Ideal.tanh (g (quarter 256 (by decide) k))) * half

/-- The kernel's new hidden entry, from the new cell entry: twice the reference's. -/
def khid (g : Fin 512 → EReal) (c : EReal) (k : Fin 128) : EReal :=
  (1 + Ideal.tanh (g (quarter 384 (by decide) k))) * Ideal.tanh c

/-- The kernel's cell row and doubled hidden row after `t` steps. -/
def kst (wk : Fin 192 → Fin 512 → EReal) (gb : ℕ → Fin 512 → EReal) (xl : ℕ → Fin 64 → EReal) :
    ℕ → (Fin 128 → EReal) × (Fin 128 → EReal)
  | 0 => (fun _ => 0, fun _ => 0)
  | t + 1 => (fun k => kcell (kgate wk (gb t) (xl t) (kst wk gb xl t).2) ((kst wk gb xl t).1 k) k,
      fun k => khid (kgate wk (gb t) (xl t) (kst wk gb xl t).2)
        (kcell (kgate wk (gb t) (xl t) (kst wk gb xl t).2) ((kst wk gb xl t).1 k) k) k)

/-- The kernel's score of a doubled hidden row, the weights halved. -/
def kscore (w5 : Fin 128 → EReal) (b5 : EReal) (h : Fin 128 → EReal) : EReal := ∑ k, w5 k * max (h k) 0 + b5

/-! ## The operands the kernel is given -/

/-- The scale of a gate column: a half, but one in the third quarter. -/
def cs (r : Fin 512) : EReal := if 256 ≤ r.val ∧ r.val < 384 then 1 else half

/-- The scaled weights of the node's features and of the doubled hidden row. -/
def kw (w : Weights) (k : Fin 192) (r : Fin 512) : EReal :=
  (if h : k.val < 64 then w.Wih r ⟨64 + k.val, by omega⟩ else w.Whh r ⟨k.val - 64, by omega⟩ * half) * cs r

/-- The graph's own gate row, scaled. -/
def kgb (w : Weights) (g : Fin 64 → EReal) (r : Fin 512) : EReal :=
  ∑ j : Fin 64, g j * (w.Wih r ⟨j.val, by omega⟩ * cs r) + (w.bih r + w.bhh r) * cs r

end Cert.Lstm

end
-- ==== Proof.Payloads.lean ====
module

public import proofs.«01_k».proof.Proof.Gen.KernelIdeal.Skeleton
public import proofs.«01_k».proof.Proof.Spec

@[expose] public section

set_option maxRecDepth 16384

/-! What one grid point's stores hold, entry by entry. The kernel's steps are cut differently in the text of each
step; `gatesA`, `cellA`, `hidA`, `rowA` and `outA` are the one form that all of them are. -/

noncomputable section

namespace Cert.KernelIdeal.Blk

open Idealize.ShloMosaic Cert.KernelIdeal Cert.KernelIdeal.Gen Cert.Lstm

/-- The gate rows: one product over 256 columns. -/
abbrev gatesA (X : Vec Ideal S2048x256 .f32) (W : Vec Ideal S256x512 .f32) : FVec Ideal S2048x512 .f32 := k0_pay21 X W

/-- The new cell rows. -/
abbrev cellA (c : FVec Ideal S2048x128 .f32) (X : Vec Ideal S2048x256 .f32) (W : Vec Ideal S256x512 .f32) :
    FVec Ideal S2048x128 .f32 := k0_pay22 c X W

/-- The new hidden rows. -/
abbrev hidA (c : FVec Ideal S2048x128 .f32) (X : Vec Ideal S2048x256 .f32) (W : Vec Ideal S256x512 .f32) :
    FVec Ideal S2048x128 .f32 := k0_pay23 c X W

/-- One step's row of scores. -/
abbrev rowA (w : FVec Ideal S1x128 .f32) (c : FVec Ideal S2048x128 .f32) (X : Vec Ideal S2048x256 .f32) (W : Vec Ideal S256x512 .f32) :
    FVec Ideal S1x2048 .f32 := k0_pay25 w c X W

/-- The gates at an entry: a row of the left matrix times a column of the right one. -/
theorem gatesA_apply (X : Vec Ideal S2048x256 .f32) (W : Vec Ideal S256x512 .f32) (n : Fin 2048) (r : Fin 512) :
    gatesA X W (ix2 n r) = ∑ k : Fin 256, X (ix2 n k) * W (ix2 k r) := by
  unfold gatesA
  pointwise! [k0_pay21]

/-- The new cell at an entry, from the gate row. -/
theorem cellA_apply (c : FVec Ideal S2048x128 .f32) (X : Vec Ideal S2048x256 .f32) (W : Vec Ideal S256x512 .f32) (n : Fin 2048) (k : Fin 128) :
    cellA c X W (ix2 n k) = kcell (fun r => gatesA X W (ix2 n r)) (c (ix2 n k)) k := by
  unfold cellA gatesA kcell
  generalize hG : k0_pay21 X W = G
  unfold k0_pay22
  rw [hG]
  pointwise!
  simp only [quarter, ofBits_half, Nat.zero_add]

/-- The new doubled hidden row at an entry, from the gate row and the new cell. -/
theorem hidA_apply (c : FVec Ideal S2048x128 .f32) (X : Vec Ideal S2048x256 .f32) (W : Vec Ideal S256x512 .f32) (n : Fin 2048) (k : Fin 128) :
    hidA c X W (ix2 n k) = khid (fun r => gatesA X W (ix2 n r)) (cellA c X W (ix2 n k)) k := by
  unfold hidA gatesA cellA khid
  unfold k0_pay23
  generalize k0_pay21 X W = G
  generalize k0_pay22 c X W = C
  pointwise!

/-- The score of a node, without its bias. -/
theorem rowA_apply (w : FVec Ideal S1x128 .f32) (c : FVec Ideal S2048x128 .f32) (X : Vec Ideal S2048x256 .f32) (W : Vec Ideal S256x512 .f32) (n : Fin 2048) :
    rowA w c X W (ix2 0 n) = ∑ k : Fin 128, w (ix2 0 k) * max (hidA c X W (ix2 n k)) 0 := by
  unfold rowA hidA k0_pay25
  generalize k0_pay23 c X W = G
  pointwise!

/-- The point's rows of scores: four rows, the offset added, masked by the reach. -/
def outA (reach : FVec Ideal S4x2048 .f32) (b5 : Ideal .f32) (r0 r1 r2 r3 : FVec Ideal S1x2048 .f32) : FVec Ideal S4x2048 .f32 :=
  select (cmpf .ogt reach (broadcast S4x2048 (Scalar.ofBits .f32 0x3F000000#32)))
    (addf (concatenate S4x2048 0 [⟨S1x2048, r0⟩, ⟨S1x2048, r1⟩, ⟨S1x2048, r2⟩, ⟨S1x2048, r3⟩]
      concatenates_S1x2048_S1x2048_S1x2048_S1x2048_S4x2048_d0) (broadcast S4x2048 b5))
    (broadcast S4x2048 (Scalar.ofBits .f32 0xFF800000#32))

/-- A score where the node is reached, `⊥` elsewhere. -/
def masked (reach v : EReal) : EReal := if half < reach then v else ⊥

/-- The masked score of a node at step `t`. -/
theorem outA_apply (reach : FVec Ideal S4x2048 .f32) (b5 : Ideal .f32) (r0 r1 r2 r3 : FVec Ideal S1x2048 .f32) (t : Fin 4) (n : Fin 2048) :
    outA reach b5 r0 r1 r2 r3 (ix2 t n) = masked (reach (ix2 t n)) ((![r0, r1, r2, r3] t) (ix2 0 n) + b5) := by
  have hcat : concatenate S4x2048 0 [⟨S1x2048, r0⟩, ⟨S1x2048, r1⟩, ⟨S1x2048, r2⟩, ⟨S1x2048, r3⟩]
      concatenates_S1x2048_S1x2048_S1x2048_S1x2048_S4x2048_d0 (ix2 t n) = (![r0, r1, r2, r3] t) (ix2 0 n) := by
    fin_vals t with ht
    · obtain rfl : t = 0 := Fin.ext ht
      pointwise!
    · obtain rfl : t = 1 := Fin.ext ht
      pointwise!
    · obtain rfl : t = 2 := Fin.ext ht
      pointwise!
    · obtain rfl : t = 3 := Fin.ext ht
      pointwise!
  rw [← hcat]
  unfold outA masked
  generalize concatenate S4x2048 0 [⟨S1x2048, r0⟩, ⟨S1x2048, r1⟩, ⟨S1x2048, r2⟩, ⟨S1x2048, r3⟩]
      concatenates_S1x2048_S1x2048_S1x2048_S1x2048_S4x2048_d0 = M
  pointwise!
  rw [ofBits_half, ofBits_neg_inf]

/-- The four steps' mean rows laid one below the other. -/
theorem cat64_apply (r0 r1 r2 r3 : FVec Ideal S1x64 .f32) (t : Fin 4) (i : Fin 64) :
    concatenate S4x64 0 [⟨S1x64, r0⟩, ⟨S1x64, r1⟩, ⟨S1x64, r2⟩, ⟨S1x64, r3⟩]
      concatenates_S1x64_S1x64_S1x64_S1x64_S4x64_d0 (ix2 t i) = (![r0, r1, r2, r3] t) (ix2 0 i) := by
  fin_vals t with ht
  · obtain rfl : t = 0 := Fin.ext ht
    pointwise!
  · obtain rfl : t = 1 := Fin.ext ht
    pointwise!
  · obtain rfl : t = 2 := Fin.ext ht
    pointwise!
  · obtain rfl : t = 3 := Fin.ext ht
    pointwise!

/-- The word of "this column is the first", read as a number. -/
theorem first_word (k : Fin 64) :
    FloatOps.sitofp (F := Ideal) .f32 (BitVec.setWidth 32 (IntOp.cmpi CmpIPredicate.eq (BitVec.ofNat 32 k.val) 0#32)) = if k.val = 0 then (1 : EReal) else 0 := by
  have hw : ∀ k : Fin 64, (BitVec.setWidth 32 (IntOp.cmpi CmpIPredicate.eq (BitVec.ofNat 32 k.val) 0#32)).toInt = if k.val = 0 then 1 else 0 := by
    decide
  show ((((BitVec.setWidth 32 (IntOp.cmpi CmpIPredicate.eq (BitVec.ofNat 32 k.val) 0#32)).toInt : ℤ) : ℝ) : EReal) = _
  rw [hw]
  split <;> simp

section Words

variable (w : Vec Ideal S1x128 .f32) (c : FVec Ideal S2048x128 .f32) (X : Vec Ideal S2048x256 .f32) (W : Vec Ideal S256x512 .f32)

/-- What the first graph stores after step 0 is its doubled hidden row. -/
theorem pay24_apply (j : S2048x128.Idx) : k0_pay24 c X W j = hidA c X W j := by
  unfold k0_pay24; pointwise!
/-- The same after step 1. -/
theorem pay30_apply (j : S2048x128.Idx) : k0_pay30 c X W (constant S2048x512 .f32 0#32) j = hidA c X W j := by
  unfold k0_pay30; pointwise!
/-- The same after step 2. -/
theorem pay40_apply (j : S2048x128.Idx) : k0_pay40 c (k0_pay34 X W) (k0_pay35 X W) (k0_pay36 X W) (k0_pay37 X W) j = hidA c X W j := by
  unfold k0_pay40; pointwise!
/-- What the second graph stores after step 0 is its doubled hidden row. -/
theorem pay62_apply (j : S2048x128.Idx) : k0_pay62 X W j = hidA k0_pay18 X W j := by
  unfold k0_pay62; pointwise!
/-- The same after step 1. -/
theorem pay69_apply (j : S2048x128.Idx) : k0_pay69 c X W j = hidA c X W j := by
  unfold k0_pay69; pointwise!
/-- The same after step 2. -/
theorem pay75_apply (j : S2048x128.Idx) : k0_pay75 c X W j = hidA c X W j := by
  unfold k0_pay75; pointwise!

/-- The first graph's cell after step 1. -/
theorem pay28_eq : k0_pay28 c X W (constant S2048x512 .f32 0#32) = cellA c X W := rfl
/-- The second graph's cell after step 0. -/
theorem pay60_eq : k0_pay60 X W = cellA k0_pay18 X W := rfl
/-- The second graph's cell after step 1. -/
theorem pay67_eq : k0_pay67 c X W = cellA c X W := rfl
/-- The second graph's cell after step 2. -/
theorem pay73_eq : k0_pay73 c X W = cellA c X W := rfl
/-- The first graph's scores at step 1. -/
theorem pay31_eq : k0_pay31 w c X W (constant S2048x512 .f32 0#32) = rowA w c X W := rfl
/-- The first graph's scores at step 2. -/
theorem pay41_eq : k0_pay41 w c (k0_pay34 X W) (k0_pay35 X W) (k0_pay36 X W) (k0_pay37 X W) = rowA w c X W := rfl
/-- The second graph's scores at step 0. -/
theorem pay63_eq : k0_pay63 w X W = rowA (k0_pay56 w) k0_pay18 X W := rfl
/-- The second graph's scores at step 1. -/
theorem pay70_eq : k0_pay70 w c X W = rowA w c X W := rfl
/-- The second graph's scores at step 2. -/
theorem pay76_eq : k0_pay76 w c X W = rowA w c X W := rfl

/-- The first graph's block, from its last two steps' cells. -/
theorem pay46_eq (reach : FVec Ideal S4x2048 .f32) (b5 : Ideal .f32) (r0 r1 r2 : FVec Ideal S1x2048 .f32)
    (X' : Vec Ideal S2048x256 .f32) (W' : Vec Ideal S256x512 .f32) :
    k0_pay46 reach w b5 r0 r1 r2 (k0_pay44 X' W')
        (k0_pay45 c (k0_pay34 X W) (k0_pay35 X W) (k0_pay36 X W) X' W')
      = outA reach b5 r0 r1 r2 (rowA w (cellA c X W) X' W') := rfl

/-- The second graph's block, from its last step's gates. -/
theorem pay1_eq (reach : FVec Ideal S4x2048 .f32) (b5 : Ideal .f32) (r0 r1 r2 : FVec Ideal S1x2048 .f32) :
    k0_pay1 reach w b5 r0 r1 c r2 (k0_pay78 X W) (k0_pay79 X W) (k0_pay80 X W) = outA reach b5 r0 r1 r2 (rowA w c X W) := rfl

end Words

/-! ## The operands' words -/

section Operands

variable (x0 : Vec Ideal S4x4096x67 .f32) (x1 : Vec Ideal S1x2048 .f32) (x2 : Vec Ideal S64x64 .f32) (x3 : Vec Ideal S1x64 .f32)
  (x6 : Vec Ideal S1x128 .f32) (x7 : Vec Ideal S1x1 .f32) (x8 : Vec Ideal S192x512 .f32) (x9 : Vec Ideal S64x512 .f32) (x10 : Vec Ideal S1x512 .f32)

/-- Where graph `g` of the pair keeps its node `n`. -/
def at2 (g : Fin 2) (n : Fin 2048) : Fin 4096 := ⟨2048 * g.val + n.val, by omega⟩

/-- The gate row that step `t` of graph `g` of the pair adds, from the graph's mean row. -/
def gbA (g : Fin 2) (t : Fin 4) (r : Fin 512) : EReal :=
  ∑ j : Fin 64, max (∑ i : Fin 64, (∑ n : Fin 2048, x1 (ix2 0 n) * x0 (ix3 t (at2 g n) ⟨i.val, by omega⟩)) * x2 (ix2 i j) + x3 (ix2 0 j)) 0
    * x9 (ix2 j r) + x10 (ix2 0 r)

/-- A step's mean row of a graph: the row of reciprocals times the step's rows. -/
def meanA (V : FVec Ideal S1x2048x64 .f32) : FVec Ideal S1x64 .f32 :=
  matmul dot_S1x2048_S2048x64_S1x64_1_0_0_1_n_n none (shapeCast S1x2048 x1 shapeCasts_S1x2048_S1x2048 : FVec Ideal S1x2048 .f32)
    (shapeCast S2048x64 V shapeCasts_S1x2048x64_S2048x64) (constant S1x64 .f32 0x00000000#32)

/-- One step's mean over a graph's nodes: the sum of the features, each times the given weight. -/
theorem meanA_apply (V : FVec Ideal S1x2048x64 .f32) (i : Fin 64) : meanA x1 V (ix2 0 i) = ∑ n : Fin 2048, x1 (ix2 0 n) * V (ix3 0 n i) := by
  pointwise! [meanA]

/-- The graph's linear layer, before it is cut at zero. -/
def linA (M : FVec Ideal S4x64 .f32) : FVec Ideal S4x64 .f32 :=
  addf (matmul dot_S4x64_S64x64_S4x64_1_0_0_1_n_n none M (shapeCast S64x64 x2 shapeCasts_S64x64_S64x64 : FVec Ideal S64x64 .f32) (constant S4x64 .f32 0x00000000#32))
    (broadcastTo S4x64 (shapeCast S1x64 x3 shapeCasts_S1x64_S1x64 : FVec Ideal S1x64 .f32) broadcasts_S1x64_S4x64)

/-- The first graph's layer of the four steps' means. -/
theorem pay12_eq : k0_pay12 x0 x1 x1 x1 x1 x2 x3 = linA x2 x3 (concatenate S4x64 0
    [⟨S1x64, meanA x1 (extractStridedSlice S1x2048x64 ![0, 0, 0] (k0_pay10 x0) slices_S4x2048x64_o0_0_0_S1x2048x64)⟩,
     ⟨S1x64, meanA x1 (extractStridedSlice S1x2048x64 ![1, 0, 0] (k0_pay10 x0) slices_S4x2048x64_o1_0_0_S1x2048x64)⟩,
     ⟨S1x64, meanA x1 (extractStridedSlice S1x2048x64 ![2, 0, 0] (k0_pay10 x0) slices_S4x2048x64_o2_0_0_S1x2048x64)⟩,
     ⟨S1x64, meanA x1 (extractStridedSlice S1x2048x64 ![3, 0, 0] (k0_pay10 x0) slices_S4x2048x64_o3_0_0_S1x2048x64)⟩]
    concatenates_S1x64_S1x64_S1x64_S1x64_S4x64_d0) := rfl

/-- The first graph's gate rows from the layer before it is cut off at zero. -/
theorem pay13_lin (M : FVec Ideal S4x64 .f32) (t : Fin 4) (r : Fin 512) :
    k0_pay13 (linA x2 x3 M) x9 x10 (ix2 t r)
      = ∑ j : Fin 64, max (∑ i : Fin 64, M (ix2 t i) * x2 (ix2 i j) + x3 (ix2 0 j)) 0 * x9 (ix2 j r) + x10 (ix2 0 r) := by
  pointwise! [k0_pay13, linA]

/-- The first graph's gate row at step `t`. -/
theorem pay13_apply (t : Fin 4) (r : Fin 512) :
    k0_pay13 (k0_pay12 x0 x1 x1 x1 x1 x2 x3) x9 x10 (ix2 t r) = gbA x0 x1 x2 x3 x9 x10 0 t r := by
  rw [pay12_eq, pay13_lin]
  unfold gbA
  have hM : ∀ i : Fin 64, (![meanA x1 (extractStridedSlice S1x2048x64 ![0, 0, 0] (k0_pay10 x0) slices_S4x2048x64_o0_0_0_S1x2048x64),
      meanA x1 (extractStridedSlice S1x2048x64 ![1, 0, 0] (k0_pay10 x0) slices_S4x2048x64_o1_0_0_S1x2048x64),
      meanA x1 (extractStridedSlice S1x2048x64 ![2, 0, 0] (k0_pay10 x0) slices_S4x2048x64_o2_0_0_S1x2048x64),
      meanA x1 (extractStridedSlice S1x2048x64 ![3, 0, 0] (k0_pay10 x0) slices_S4x2048x64_o3_0_0_S1x2048x64)] t) (ix2 0 i)
      = ∑ n : Fin 2048, x1 (ix2 0 n) * x0 (ix3 t (at2 0 n) ⟨i.val, by omega⟩) := fun i => by
    unfold at2
    fin_vals t with ht
    · obtain rfl : t = 0 := Fin.ext ht
      refine (meanA_apply x1 _ i).trans ?_
      pointwise! [k0_pay10]
    · obtain rfl : t = 1 := Fin.ext ht
      refine (meanA_apply x1 _ i).trans ?_
      pointwise! [k0_pay10]
    · obtain rfl : t = 2 := Fin.ext ht
      refine (meanA_apply x1 _ i).trans ?_
      pointwise! [k0_pay10]
    · obtain rfl : t = 3 := Fin.ext ht
      refine (meanA_apply x1 _ i).trans ?_
      pointwise! [k0_pay10]
  simp only [← hM, ← cat64_apply]

/-- The second graph's gate row at step `t`. -/
theorem pay53_apply (t : Fin 4) (r : Fin 512) :
    k0_pay53 (k0_pay49 x0 x1) (k0_pay50 x0 x1) (k0_pay51 x0 x1) (k0_pay52 x0 x1) x2 x3 x9 x10 (ix2 t r) = gbA x0 x1 x2 x3 x9 x10 1 t r := by
  have hM : ∀ i : Fin 64, (![k0_pay49 x0 x1, k0_pay50 x0 x1, k0_pay51 x0 x1, k0_pay52 x0 x1] t) (ix2 0 i)
      = ∑ n : Fin 2048, x1 (ix2 0 n) * x0 (ix3 t (at2 1 n) ⟨i.val, by omega⟩) := fun i => by
    unfold at2
    fin_vals t with ht
    · obtain rfl : t = 0 := Fin.ext ht
      pointwise! [k0_pay49, k0_pay47]
    · obtain rfl : t = 1 := Fin.ext ht
      pointwise! [k0_pay50, k0_pay47]
    · obtain rfl : t = 2 := Fin.ext ht
      pointwise! [k0_pay51, k0_pay47]
    · obtain rfl : t = 3 := Fin.ext ht
      pointwise! [k0_pay52, k0_pay47]
  unfold gbA
  simp only [← hM, ← cat64_apply]
  unfold k0_pay53
  generalize concatenate S4x64 0 [⟨S1x64, k0_pay49 x0 x1⟩, ⟨S1x64, k0_pay50 x0 x1⟩, ⟨S1x64, k0_pay51 x0 x1⟩, ⟨S1x64, k0_pay52 x0 x1⟩]
      concatenates_S1x64_S1x64_S1x64_S1x64_S4x64_d0 = M
  pointwise!

/-- The node's half of the features, over the four steps' nodes laid end to end. -/
def xlA (g : Fin 2) (n : Fin 8192) (k : Fin 64) : EReal :=
  max (∑ j : Fin 64, x0 (ix3 ⟨n.val / 2048, by omega⟩ (at2 g ⟨n.val % 2048, by omega⟩) ⟨j.val, by omega⟩) * x2 (ix2 j k) + x3 (ix2 0 k)) 0

/-- The first graph's 64 features of each node at each step. -/
theorem pay14_apply (n : Fin 8192) (k : Fin 64) : k0_pay14 (k0_pay10 x0) x2 x3 (ix2 n k) = xlA x0 x2 x3 0 n k := by
  unfold xlA at2
  pointwise! [k0_pay14, k0_pay10]

/-- The second graph's 64 features of each node at each step. -/
theorem pay54_apply (n : Fin 8192) (k : Fin 64) : k0_pay54 (k0_pay47 x0) x2 x3 (ix2 n k) = xlA x0 x2 x3 1 n k := by
  unfold xlA at2
  pointwise! [k0_pay54, k0_pay47]

variable (G : FVec Ideal S4x512 .f32) (G1 : FVec Ideal S1x512 .f32)

/-- The first graph's gate row of step 0, as it is stored. -/
theorem pay19_apply (v : FVec Ideal S4x64 .f32) (r : Fin 512) : k0_pay20 (k0_pay19 v x9 x10) (ix2 0 r) = k0_pay13 v x9 x10 (ix2 0 r) := by
  unfold k0_pay20 k0_pay19
  generalize k0_pay13 v x9 x10 = Q
  pointwise!
/-- The first graph's gate row of step 1, as it is stored. -/
theorem pay26_apply (r : Fin 512) : k0_pay26 G (ix2 0 r) = G (ix2 1 r) := by pointwise! [k0_pay26]
/-- The first graph's gate row of step 2, as it is stored. -/
theorem pay32_apply (r : Fin 512) : k0_pay32 G (ix2 0 r) = G (ix2 2 r) := by pointwise! [k0_pay32]
/-- The first graph's gate row of step 3, as it is stored. -/
theorem pay42_apply (r : Fin 512) : k0_pay42 G (ix2 0 r) = G (ix2 3 r) := by pointwise! [k0_pay42]
/-- The second graph's gate row of step 0, as it is stored. -/
theorem pay58_apply (r : Fin 512) : k0_pay58 G (ix2 0 r) = G (ix2 0 r) := by pointwise! [k0_pay58]
/-- The second graph's gate row of step 1, as it is stored. -/
theorem pay65_apply (r : Fin 512) : k0_pay65 (k0_pay64 G) (ix2 0 r) = G (ix2 1 r) := by pointwise! [k0_pay65, k0_pay64]
/-- The second graph's gate row of step 2, as it is stored. -/
theorem pay71_apply (r : Fin 512) : k0_pay71 G (ix2 0 r) = G (ix2 2 r) := by pointwise! [k0_pay71]
/-- The second graph's gate row of step 3, as it is stored. -/
theorem pay77_apply (r : Fin 512) : k0_pay77 G (ix2 0 r) = G (ix2 3 r) := by pointwise! [k0_pay77]

/-- The first graph's hidden rows start at zero. -/
theorem pay15_apply (n : Fin 2048) (k : Fin 128) : k0_pay15 (F := Ideal) (ix2 n k) = 0 := by pointwise! [k0_pay15]
/-- The second graph's hidden rows start at zero. -/
theorem pay55_apply (n : Fin 2048) (k : Fin 128) : k0_pay55 (F := Ideal) (ix2 n k) = 0 := by pointwise! [k0_pay55]
/-- The cell starts at zero. -/
theorem pay18_apply (n : Fin 2048) (k : Fin 128) : k0_pay18 (F := Ideal) (ix2 n k) = 0 := by pointwise! [k0_pay18]
/-- The first graph's constant columns: a one, then zeros. -/
theorem pay3_apply (n : Fin 8192) (k : Fin 64) : k0_pay3 (F := Ideal) (ix2 n k) = if k.val = 0 then 1 else 0 := by
  pointwise! [k0_pay3, k0_pay2]
  exact first_word k
/-- The second graph's constant columns: a one, then zeros. -/
theorem pay6_apply (n : Fin 8192) (k : Fin 64) : k0_pay6 (F := Ideal) (ix2 n k) = if k.val = 0 then 1 else 0 := by
  pointwise! [k0_pay6, k0_pay2]
  exact first_word k
/-- The first graph's constant weights are the operand's. -/
theorem pay4_apply (j : S192x512.Idx) : k0_pay4 x8 j = x8 j := by pointwise! [k0_pay4]
/-- The second graph's constant weights are the operand's. -/
theorem pay7_apply (j : S192x512.Idx) : k0_pay7 x8 j = x8 j := by pointwise! [k0_pay7]
/-- Below them the first graph's right matrix starts at zero. -/
theorem pay5_apply (n : Fin 64) (k : Fin 512) : k0_pay5 (F := Ideal) (ix2 n k) = 0 := by pointwise! [k0_pay5]
/-- Below them the second graph's right matrix starts at zero. -/
theorem pay8_apply (n : Fin 64) (k : Fin 512) : k0_pay8 (F := Ideal) (ix2 n k) = 0 := by pointwise! [k0_pay8]
/-- The first graph's score weights are the operand's. -/
theorem pay16_apply (j : S1x128.Idx) : k0_pay16 x6 j = x6 j := by pointwise! [k0_pay16]
/-- The second graph's score weights are the operand's. -/
theorem pay56_apply (j : S1x128.Idx) : k0_pay56 x6 j = x6 j := by pointwise! [k0_pay56]
/-- The first graph's score bias is the operand's one entry. -/
theorem pay17_eq : k0_pay17 x7 = x7 (ix2 0 0) := by pointwise! [k0_pay17]
/-- The second graph's score bias is the operand's one entry. -/
theorem pay57_eq : k0_pay57 x7 = x7 (ix2 0 0) := by pointwise! [k0_pay57]
/-- The first graph's mask is column 65 of its nodes. -/
theorem pay11_apply (t : Fin 4) (n : Fin 2048) : k0_pay11 x0 (ix2 t n) = x0 (ix3 t (at2 0 n) 65) := by
  unfold at2
  pointwise! [k0_pay11, k0_pay9]
/-- The second graph's mask is column 65 of its nodes. -/
theorem pay48_apply (t : Fin 4) (n : Fin 2048) : k0_pay48 (k0_pay9 x0) (ix2 t n) = x0 (ix3 t (at2 1 n) 65) := by
  unfold at2
  pointwise! [k0_pay48, k0_pay9]

end Operands

end Cert.KernelIdeal.Blk

end
-- ==== Proof.Chain.lean ====
module

public import proofs.«01_k».proof.Proof.Payloads
public import Idealize.ShloMosaic.Lib.WritesUnit

@[expose] public section

set_option maxRecDepth 16384

/-! The four steps of one graph at one grid point, through the two scratch arrays that hold the left and the right
matrix. A scratch array's contents are those it came with, `f`, under a list of stores. What is said here does not
depend on the array, on the contents it came with, or on the graph. -/

noncomputable section

namespace Cert.KernelIdeal.Blk

open Idealize.ShloMosaic Cert.KernelIdeal Cert.KernelIdeal.Gen Cert.Lstm

/-- The last 64 columns of a left matrix: a one, then zeros. -/
def XTail (S : S8192x256.Idx → EReal) : Prop := ∀ (n : Fin 8192) (k : Fin 256), 192 ≤ k.val → S (ix2 n k) = if k.val = 192 then 1 else 0

/-- A left matrix whose rows below `B` are ready: features, doubled hidden rows, a one and zeros. From `B` on the hidden rows
are not there yet. -/
def XInv (xl : Fin 8192 → Fin 64 → EReal) (h : Fin 8192 → Fin 128 → EReal) (B : ℕ) (S : S8192x256.Idx → EReal) : Prop :=
  ∀ (n : Fin 8192) (k : Fin 256), (n.val < B ∨ k.val < 64 ∨ 192 ≤ k.val) → S (ix2 n k) = xrow (xl n) (h n) k

/-- A right matrix but for its row 192: the scaled weights above it, zeros below. -/
def WRest (wk : Fin 192 → Fin 512 → EReal) (S : S256x512.Idx → EReal) : Prop :=
  ∀ (k : Fin 256) (r : Fin 512), k.val ≠ 192 → S (ix2 k r) = if h : k.val < 192 then wk ⟨k.val, h⟩ r else 0

section Left

variable {sig : RefSig} {κ : Kind} {sp : Space} (v : View sig κ sp S8192x256 .f32) (f : v.ty.Contents (Elt Ideal))
  {xl : Fin 8192 → Fin 64 → EReal} {h : Fin 8192 → Fin 128 → EReal}

/-- After the features and the first step's zeros are stored, the first 2048 rows are ready. -/
theorem x_base (T : List (View.Piece (Elt Ideal) S8192x256 .f32)) (inb1 : ∀ a, (![0, 64] : Fin 2 → ℕ) a + S2048x128.size a ≤ S8192x256.size a)
    (inb2 : ∀ a, (![0, 0] : Fin 2 → ℕ) a + S8192x64.size a ≤ S8192x256.size a) (z : Vec Ideal S2048x128 .f32) (p : Vec Ideal S8192x64 .f32)
    (hT : XTail (v.read (Elt Ideal) (v.writes (Elt Ideal) f T))) (hz : ∀ n k, z (ix2 n k) = 0) (hp : ∀ n k, p (ix2 n k) = xl n k)
    (hh : ∀ n : Fin 8192, n.val < 2048 → ∀ k, h n k = 0) :
    XInv xl h 2048 (v.read (Elt Ideal) (v.writes (Elt Ideal) f (⟨Rect.unit ![0, 64] S2048x128.size inb1, z⟩ :: ⟨Rect.unit ![0, 0] S8192x64.size inb2, p⟩ :: T))) := by
  intro n k hnk
  unfold xrow
  by_cases h1 : k.val < 64
  · rw [dif_pos h1]
    rw [View.read_writes_cons_unit_of_not_mem v f inb1 z _ (ix2 n k) rfl 1 (Or.inl h1)]
    rw [View.read_writes_cons_unit_of_mem v f inb2 p T (ix2 n k) (ix2 n ⟨k.val, h1⟩) rfl (by
      intro a; fin_cases a
      · exact (Nat.zero_add _).symm
      · exact (Nat.zero_add _).symm)]
    exact hp _ _
  · rw [dif_neg h1]
    by_cases h2 : k.val < 192
    · rw [dif_pos h2]
      have hn : n.val < 2048 := by omega
      rw [View.read_writes_cons_unit_of_mem v f inb1 z _ (ix2 n k) (ix2 ⟨n.val, hn⟩ ⟨k.val - 64, by omega⟩) rfl (by
        intro a; fin_cases a
        · exact (Nat.zero_add _).symm
        · show k.val = 64 + (k.val - 64); omega)]
      exact (hz _ _).trans (hh n hn _).symm
    · rw [dif_neg h2]
      rw [View.read_writes_cons_unit_of_not_mem v f inb1 z _ (ix2 n k) rfl 1 (Or.inr (show 64 + 128 ≤ k.val by omega))]
      rw [View.read_writes_cons_unit_of_not_mem v f inb2 p _ (ix2 n k) rfl 1 (Or.inr (show 0 + 64 ≤ k.val by omega))]
      exact hT n k (by omega)

/-- After a step's hidden rows are stored below the others, 2048 more rows are ready. -/
theorem x_step (L : List (View.Piece (Elt Ideal) S8192x256 .f32)) (B : ℕ) (inb : ∀ a, (![B, 64] : Fin 2 → ℕ) a + S2048x128.size a ≤ S8192x256.size a)
    (p : Vec Ideal S2048x128 .f32) (hL : XInv xl h B (v.read (Elt Ideal) (v.writes (Elt Ideal) f L)))
    (hp : ∀ (m : Fin 2048) (k : Fin 128) (n : Fin 8192), n.val = B + m.val → p (ix2 m k) = h n k) :
    XInv xl h (B + 2048) (v.read (Elt Ideal) (v.writes (Elt Ideal) f (⟨Rect.unit ![B, 64] S2048x128.size inb, p⟩ :: L))) := by
  intro n k hnk
  by_cases hm : (B ≤ n.val ∧ n.val < B + 2048) ∧ 64 ≤ k.val ∧ k.val < 192
  · rw [View.read_writes_cons_unit_of_mem v f inb p L (ix2 n k) (ix2 ⟨n.val - B, by omega⟩ ⟨k.val - 64, by omega⟩) rfl (by
      intro a; fin_cases a
      · show n.val = B + (n.val - B); omega
      · show k.val = 64 + (k.val - 64); omega)]
    rw [hp _ _ n (by show n.val = B + (n.val - B); omega)]
    unfold xrow
    rw [dif_neg (by omega), dif_pos (by omega)]
  · by_cases hk : k.val < 64 ∨ 192 ≤ k.val
    · rw [View.read_writes_cons_unit_of_not_mem v f inb p L (ix2 n k) rfl 1 (by
        rcases hk with hk | hk
        · exact Or.inl hk
        · exact Or.inr hk)]
      exact hL n k (Or.inr hk)
    · have hn : n.val < B := by omega
      rw [View.read_writes_cons_unit_of_not_mem v f inb p L (ix2 n k) rfl 0 (Or.inl hn)]
      exact hL n k (Or.inl hn)

/-- Storing hidden rows keeps the last 64 columns. -/
theorem tail_step (L : List (View.Piece (Elt Ideal) S8192x256 .f32)) (B : ℕ) (inb : ∀ a, (![B, 64] : Fin 2 → ℕ) a + S2048x128.size a ≤ S8192x256.size a)
    (p : Vec Ideal S2048x128 .f32) (hL : XTail (v.read (Elt Ideal) (v.writes (Elt Ideal) f L))) :
    XTail (v.read (Elt Ideal) (v.writes (Elt Ideal) f (⟨Rect.unit ![B, 64] S2048x128.size inb, p⟩ :: L))) := fun n k hk => by
  rw [View.read_writes_cons_unit_of_not_mem v f inb p _ (ix2 n k) rfl 1 (Or.inr (show 64 + 128 ≤ k.val by omega))]
  exact hL n k hk

/-- Storing features keeps the last 64 columns. -/
theorem tail_feat (L : List (View.Piece (Elt Ideal) S8192x256 .f32)) (inb : ∀ a, (![0, 0] : Fin 2 → ℕ) a + S8192x64.size a ≤ S8192x256.size a)
    (p : Vec Ideal S8192x64 .f32) (hL : XTail (v.read (Elt Ideal) (v.writes (Elt Ideal) f L))) :
    XTail (v.read (Elt Ideal) (v.writes (Elt Ideal) f (⟨Rect.unit ![0, 0] S8192x64.size inb, p⟩ :: L))) := fun n k hk => by
  rw [View.read_writes_cons_unit_of_not_mem v f inb p _ (ix2 n k) rfl 1 (Or.inr (show 0 + 64 ≤ k.val by omega))]
  exact hL n k hk

/-- The first grid point's store of the last 64 columns. -/
theorem tail_first (inb : ∀ a, (![0, 192] : Fin 2 → ℕ) a + S8192x64.size a ≤ S8192x256.size a) (p : Vec Ideal S8192x64 .f32)
    (hp : ∀ n k, p (ix2 n k) = if k.val = 0 then 1 else 0) :
    XTail (v.read (Elt Ideal) (v.writes (Elt Ideal) f [⟨Rect.unit ![0, 192] S8192x64.size inb, p⟩])) := fun n k hk => by
  rw [View.read_writes_cons_unit_of_mem v f inb p _ (ix2 n k) (ix2 n ⟨k.val - 192, by omega⟩) rfl (by
    intro a; fin_cases a
    · exact (Nat.zero_add _).symm
    · show k.val = 192 + (k.val - 192); omega)]
  refine (hp _ _).trans ?_
  have h : (k.val - 192 = 0) = (k.val = 192) := propext (by omega)
  simp only [h]

/-- A step's rows of the left matrix, read back. -/
theorem x_read (L : List (View.Piece (Elt Ideal) S8192x256 .f32)) (B : ℕ) (inb : ∀ a, (![B, 0] : Fin 2 → ℕ) a + S2048x256.size a ≤ S8192x256.size a)
    (hL : XInv xl h (B + 2048) (v.read (Elt Ideal) (v.writes (Elt Ideal) f L))) (m : Fin 2048) (k : Fin 256) (n : Fin 8192) (hn : n.val = B + m.val) :
    v.readAt (Elt Ideal) (Rect.unit (s := S8192x256) ![B, 0] S2048x256.size inb).toLoadRect (v.writes (Elt Ideal) f L) (ix2 m k) = xrow (xl n) (h n) k := by
  rw [← hL n k (Or.inl (by omega))]
  show v.read (Elt Ideal) (v.writes (Elt Ideal) f L) _ = _
  congr 1
  funext a
  fin_cases a
  · refine Fin.ext ?_
    show B + 1 * m.val = n.val
    omega
  · refine Fin.ext ?_
    show 0 + 1 * k.val = k.val
    omega

end Left

section Right

variable {sig : RefSig} {κ : Kind} {sp : Space} (v : View sig κ sp S256x512 .f32) (f : v.ty.Contents (Elt Ideal))
  {wk : Fin 192 → Fin 512 → EReal}

/-- After a step's gate row is stored, the right matrix is whole, read back. -/
theorem w_read (L : List (View.Piece (Elt Ideal) S256x512 .f32)) (inb : ∀ a, (![192, 0] : Fin 2 → ℕ) a + S1x512.size a ≤ S256x512.size a)
    (inb' : ∀ a, (![0, 0] : Fin 2 → ℕ) a + S256x512.size a ≤ S256x512.size a)
    (g : Vec Ideal S1x512 .f32) (hL : WRest wk (v.read (Elt Ideal) (v.writes (Elt Ideal) f L))) (k : Fin 256) (r : Fin 512) :
    v.readAt (Elt Ideal) (Rect.unit ![0, 0] S256x512.size inb').toLoadRect (v.writes (Elt Ideal) f (⟨Rect.unit ![192, 0] S1x512.size inb, g⟩ :: L)) (ix2 k r)
      = wcol wk (fun r => g (ix2 0 r)) k r := by
  have hy : (v.readAt (Elt Ideal) (Rect.unit ![0, 0] S256x512.size inb').toLoadRect (v.writes (Elt Ideal) f (⟨Rect.unit ![192, 0] S1x512.size inb, g⟩ :: L)) (ix2 k r))
      = v.read (Elt Ideal) (v.writes (Elt Ideal) f (⟨Rect.unit ![192, 0] S1x512.size inb, g⟩ :: L)) (ix2 k r) := by
    show v.read (Elt Ideal) (v.writes (Elt Ideal) f _) _ = _
    congr 1
    funext a
    fin_cases a
    · refine Fin.ext ?_
      show 0 + 1 * k.val = k.val
      omega
    · refine Fin.ext ?_
      show 0 + 1 * r.val = r.val
      omega
  rw [hy]
  unfold wcol
  by_cases hk : k.val = 192
  · rw [View.read_writes_cons_unit_of_mem v f inb g L (ix2 k r) (ix2 0 r) rfl (by
      intro a; fin_cases a
      · exact hk
      · exact (Nat.zero_add _).symm)]
    rw [dif_neg (by omega), if_pos hk]
  · rw [View.read_writes_cons_unit_of_not_mem v f inb g L (ix2 k r) rfl 0 (by
      show k.val < 192 ∨ 192 + 1 ≤ k.val
      omega)]
    rw [hL k r hk]
    by_cases h1 : k.val < 192
    · rw [dif_pos h1, dif_pos h1]
    · rw [dif_neg h1, dif_neg h1, if_neg hk]

/-- Storing a gate row changes no other row. -/
theorem w_step (L : List (View.Piece (Elt Ideal) S256x512 .f32)) (inb : ∀ a, (![192, 0] : Fin 2 → ℕ) a + S1x512.size a ≤ S256x512.size a)
    (g : Vec Ideal S1x512 .f32) (hL : WRest wk (v.read (Elt Ideal) (v.writes (Elt Ideal) f L))) :
    WRest wk (v.read (Elt Ideal) (v.writes (Elt Ideal) f (⟨Rect.unit ![192, 0] S1x512.size inb, g⟩ :: L))) := by
  intro k r hk
  rw [View.read_writes_cons_unit_of_not_mem v f inb g L (ix2 k r) rfl 0 (by
      show k.val < 192 ∨ 192 + 1 ≤ k.val
      omega)]
  exact hL k r hk

/-- The first grid point's stores of the scaled weights and of the zero rows below them. -/
theorem rest_first (inb1 : ∀ a, (![192, 0] : Fin 2 → ℕ) a + S64x512.size a ≤ S256x512.size a)
    (inb2 : ∀ a, (![0, 0] : Fin 2 → ℕ) a + S192x512.size a ≤ S256x512.size a) (z : Vec Ideal S64x512 .f32) (p : Vec Ideal S192x512 .f32)
    (hz : ∀ n k, z (ix2 n k) = 0) (hp : ∀ n k, p (ix2 n k) = wk n k) :
    WRest wk (v.read (Elt Ideal) (v.writes (Elt Ideal) f [⟨Rect.unit ![192, 0] S64x512.size inb1, z⟩, ⟨Rect.unit ![0, 0] S192x512.size inb2, p⟩])) := by
  intro k r hk
  by_cases h1 : k.val < 192
  · rw [dif_pos h1, View.read_writes_cons_unit_of_not_mem v f inb1 z _ (ix2 k r) rfl 0 (Or.inl h1)]
    rw [View.read_writes_cons_unit_of_mem v f inb2 p _ (ix2 k r) (ix2 ⟨k.val, h1⟩ r) rfl (by
      intro a; fin_cases a
      · exact (Nat.zero_add _).symm
      · exact (Nat.zero_add _).symm)]
    exact hp _ _
  · rw [dif_neg h1]
    rw [View.read_writes_cons_unit_of_mem v f inb1 z _ (ix2 k r) (ix2 ⟨k.val - 192, by omega⟩ r) rfl (by
      intro a; fin_cases a
      · show k.val = 192 + (k.val - 192); omega
      · exact (Nat.zero_add _).symm)]
    exact hz _ _

end Right

/-! ## One step -/

section Step

variable (wk : Fin 192 → Fin 512 → EReal) (gb : ℕ → Fin 512 → EReal) (xl : ℕ → Fin 64 → EReal) (t : ℕ)
  (c : FVec Ideal S2048x128 .f32) (X : Vec Ideal S2048x256 .f32) (W : Vec Ideal S256x512 .f32) (n : Fin 2048)
  (hc : ∀ k, c (ix2 n k) = (kst wk gb xl t).1 k) (hX : ∀ k, X (ix2 n k) = xrow (xl t) (kst wk gb xl t).2 k)
  (hW : ∀ k r, W (ix2 k r) = wcol wk (gb t) k r)

include hX hW in
/-- The product of a node's left row with the right matrix is the gate row after `t` steps. -/
theorem gates_step (r : Fin 512) : gatesA X W (ix2 n r) = kgate wk (gb t) (xl t) (kst wk gb xl t).2 r := by
  rw [gatesA_apply]
  unfold kgate
  simp only [hX, hW]

include hc hX hW

/-- The cell row the kernel computes from it is the one after `t + 1` steps. -/
theorem cell_step (k : Fin 128) : cellA c X W (ix2 n k) = (kst wk gb xl (t + 1)).1 k := by
  rw [cellA_apply]
  simp only [gates_step wk gb xl t X W n hX hW, hc]
  rfl

/-- The doubled hidden row likewise. -/
theorem hid_step (k : Fin 128) : hidA c X W (ix2 n k) = (kst wk gb xl (t + 1)).2 k := by
  rw [hidA_apply]
  simp only [gates_step wk gb xl t X W n hX hW, cell_step wk gb xl t c X W n hc hX hW]
  rfl

/-- The step's score of a node, from the hidden row after `t + 1` steps. -/
theorem row_step (w : FVec Ideal S1x128 .f32) :
    rowA w c X W (ix2 0 n) = ∑ k : Fin 128, w (ix2 0 k) * max ((kst wk gb xl (t + 1)).2 k) 0 := by
  rw [rowA_apply]
  simp only [hid_step wk gb xl t c X W n hc hX hW]

end Step

/-! ## Four steps -/

section Four

variable {sig : RefSig} {κ : Kind} {sp : Space} (v : View sig κ sp S8192x256 .f32) (f : v.ty.Contents (Elt Ideal))
  {sig' : RefSig} {κ' : Kind} {sp' : Space} (u : View sig' κ' sp' S256x512 .f32) (e : u.ty.Contents (Elt Ideal))
  (T : List (View.Piece (Elt Ideal) S8192x256 .f32)) (M : List (View.Piece (Elt Ideal) S256x512 .f32))

/-- The row of step `s` of node `n` in the four steps' nodes laid end to end. -/
def rowOf (n : Fin 2048) (s : ℕ) : Fin 8192 := ⟨(2048 * s + n.val) % 8192, Nat.mod_lt _ (by decide)⟩

/-- A node's cell and doubled hidden row after `t` steps, its features and its graph's gate rows given. -/
def stOf (wk : Fin 192 → Fin 512 → EReal) (gb : ℕ → Fin 512 → EReal) (xl : Fin 8192 → Fin 64 → EReal) (n : Fin 2048) (t : ℕ) :
    (Fin 128 → EReal) × (Fin 128 → EReal) :=
  kst wk gb (fun s => xl (rowOf n s)) t

/-- The hidden rows that the left matrix is filled with. -/
def hOf (wk : Fin 192 → Fin 512 → EReal) (gb : ℕ → Fin 512 → EReal) (xl : Fin 8192 → Fin 64 → EReal) (n : Fin 8192) : Fin 128 → EReal :=
  (stOf wk gb xl ⟨n.val % 2048, by omega⟩ (n.val / 2048)).2

/-- The hidden part of the left matrix at a node's place in step `t` is that node's hidden row after `t` steps. -/
theorem hOf_row (wk : Fin 192 → Fin 512 → EReal) (gb : ℕ → Fin 512 → EReal) (xl : Fin 8192 → Fin 64 → EReal) (n : Fin 8192) (m : Fin 2048) (t : ℕ)
    (hn : n.val = 2048 * t + m.val) : hOf wk gb xl n = (stOf wk gb xl m t).2 ∧ rowOf m t = n := by
  have hm := m.isLt
  have h1 : n.val % 2048 = m.val := by omega
  have h2 : n.val / 2048 = t := by omega
  refine ⟨?_, Fin.ext ?_⟩
  · unfold hOf
    have h3 : (⟨n.val % 2048, by omega⟩ : Fin 2048) = m := Fin.ext h1
    rw [h3, h2]
  · show (2048 * t + m.val) % 8192 = n.val
    omega

variable (wk : Fin 192 → Fin 512 → EReal) (gb : ℕ → Fin 512 → EReal) (xl : Fin 8192 → Fin 64 → EReal)

/-- Step `t`, its left matrix read from the scratch array and its right matrix whole: the new cells, the hidden rows it
stores, and its row of scores. -/
theorem one_step (t : ℕ) (B : ℕ) (hB : B = 2048 * t) (ht : t < 4) (c : FVec Ideal S2048x128 .f32)
    (L : List (View.Piece (Elt Ideal) S8192x256 .f32)) (inb : ∀ a, (![B, 0] : Fin 2 → ℕ) a + S2048x256.size a ≤ S8192x256.size a)
    (X : Vec Ideal S2048x256 .f32) (W : Vec Ideal S256x512 .f32)
    (hX : X = v.readAt (Elt Ideal) (Rect.unit (s := S8192x256) ![B, 0] S2048x256.size inb).toLoadRect (v.writes (Elt Ideal) f L))
    (hL : XInv xl (hOf wk gb xl) (B + 2048) (v.read (Elt Ideal) (v.writes (Elt Ideal) f L)))
    (hW : ∀ k r, W (ix2 k r) = wcol wk (gb t) k r) (hc : ∀ n k, c (ix2 n k) = (stOf wk gb xl n t).1 k) :
    (∀ n k, cellA c X W (ix2 n k) = (stOf wk gb xl n (t + 1)).1 k)
      ∧ (∀ n k, hidA c X W (ix2 n k) = (stOf wk gb xl n (t + 1)).2 k)
      ∧ ∀ (w : FVec Ideal S1x128 .f32) n, rowA w c X W (ix2 0 n) = ∑ k : Fin 128, w (ix2 0 k) * max ((stOf wk gb xl n (t + 1)).2 k) 0 := by
  have hx : ∀ (n : Fin 2048) (k : Fin 256), X (ix2 n k) = xrow (xl (rowOf n t)) (stOf wk gb xl n t).2 k := fun n k => by
    have hn := n.isLt
    obtain ⟨h1, h2⟩ := hOf_row wk gb xl ⟨B + n.val, by omega⟩ n t (by show B + n.val = _; omega)
    rw [hX, x_read v f L B inb hL n k ⟨B + n.val, by omega⟩ rfl, h1, h2]
  exact ⟨fun n k => cell_step wk gb _ t c X W n (hc n) (hx n) hW k,
    fun n k => hid_step wk gb _ t c X W n (hc n) (hx n) hW k,
    fun w n => row_step wk gb _ t c X W n (hc n) (hx n) hW w⟩

/-- The stored hidden rows make the next step's rows ready. -/
theorem next_rows (t : ℕ) (B : ℕ) (hB : B = 2048 * t)
    (L : List (View.Piece (Elt Ideal) S8192x256 .f32)) (inb : ∀ a, (![B, 64] : Fin 2 → ℕ) a + S2048x128.size a ≤ S8192x256.size a)
    (p : Vec Ideal S2048x128 .f32) (hL : XInv xl (hOf wk gb xl) B (v.read (Elt Ideal) (v.writes (Elt Ideal) f L)))
    (hp : ∀ n k, p (ix2 n k) = (stOf wk gb xl n t).2 k) :
    XInv xl (hOf wk gb xl) (B + 2048) (v.read (Elt Ideal) (v.writes (Elt Ideal) f (⟨Rect.unit ![B, 64] S2048x128.size inb, p⟩ :: L))) :=
  x_step v f L B inb p hL fun m k n hn => by rw [hp m k, (hOf_row wk gb xl n m t (hn.trans (by rw [hB]))).1]

/-- All four steps: the block of scores that the point stores for the graph. -/
theorem four_steps (inb64 : ∀ a, (![0, 64] : Fin 2 → ℕ) a + S2048x128.size a ≤ S8192x256.size a)
    (inbp : ∀ a, (![0, 0] : Fin 2 → ℕ) a + S8192x64.size a ≤ S8192x256.size a)
    (inb1 : ∀ a, (![2048, 64] : Fin 2 → ℕ) a + S2048x128.size a ≤ S8192x256.size a)
    (inb2 : ∀ a, (![4096, 64] : Fin 2 → ℕ) a + S2048x128.size a ≤ S8192x256.size a)
    (inb3 : ∀ a, (![6144, 64] : Fin 2 → ℕ) a + S2048x128.size a ≤ S8192x256.size a)
    (inr0 : ∀ a, (![0, 0] : Fin 2 → ℕ) a + S2048x256.size a ≤ S8192x256.size a)
    (inr1 : ∀ a, (![2048, 0] : Fin 2 → ℕ) a + S2048x256.size a ≤ S8192x256.size a)
    (inr2 : ∀ a, (![4096, 0] : Fin 2 → ℕ) a + S2048x256.size a ≤ S8192x256.size a)
    (inr3 : ∀ a, (![6144, 0] : Fin 2 → ℕ) a + S2048x256.size a ≤ S8192x256.size a)
    (inw : ∀ a, (![192, 0] : Fin 2 → ℕ) a + S1x512.size a ≤ S256x512.size a)
    (inv : ∀ a, (![0, 0] : Fin 2 → ℕ) a + S256x512.size a ≤ S256x512.size a)
    (z : Vec Ideal S2048x128 .f32) (p : Vec Ideal S8192x64 .f32) (p1 p2 p3 : Vec Ideal S2048x128 .f32) (g0 g1 g2 g3 : Vec Ideal S1x512 .f32)
    (X0 X1 X2 X3 : Vec Ideal S2048x256 .f32) (W0 W1 W2 W3 : Vec Ideal S256x512 .f32)
    (L2 L3 L4 L5 : List (View.Piece (Elt Ideal) S8192x256 .f32)) (M1 M2 M3 M4 : List (View.Piece (Elt Ideal) S256x512 .f32))
    (hL2 : L2 = ⟨Rect.unit ![0, 64] S2048x128.size inb64, z⟩ :: ⟨Rect.unit ![0, 0] S8192x64.size inbp, p⟩ :: T)
    (hL3 : L3 = ⟨Rect.unit ![2048, 64] S2048x128.size inb1, p1⟩ :: L2)
    (hL4 : L4 = ⟨Rect.unit ![4096, 64] S2048x128.size inb2, p2⟩ :: L3)
    (hL5 : L5 = ⟨Rect.unit ![6144, 64] S2048x128.size inb3, p3⟩ :: L4)
    (hM1 : M1 = ⟨Rect.unit ![192, 0] S1x512.size inw, g0⟩ :: M)
    (hM2 : M2 = ⟨Rect.unit ![192, 0] S1x512.size inw, g1⟩ :: M1)
    (hM3 : M3 = ⟨Rect.unit ![192, 0] S1x512.size inw, g2⟩ :: M2)
    (hM4 : M4 = ⟨Rect.unit ![192, 0] S1x512.size inw, g3⟩ :: M3)
    (hX0 : X0 = v.readAt (Elt Ideal) (Rect.unit (s := S8192x256) ![0, 0] S2048x256.size inr0).toLoadRect (v.writes (Elt Ideal) f L2))
    (hX1 : X1 = v.readAt (Elt Ideal) (Rect.unit (s := S8192x256) ![2048, 0] S2048x256.size inr1).toLoadRect (v.writes (Elt Ideal) f L3))
    (hX2 : X2 = v.readAt (Elt Ideal) (Rect.unit (s := S8192x256) ![4096, 0] S2048x256.size inr2).toLoadRect (v.writes (Elt Ideal) f L4))
    (hX3 : X3 = v.readAt (Elt Ideal) (Rect.unit (s := S8192x256) ![6144, 0] S2048x256.size inr3).toLoadRect (v.writes (Elt Ideal) f L5))
    (hW0 : W0 = u.readAt (Elt Ideal) (Rect.unit (s := S256x512) ![0, 0] S256x512.size inv).toLoadRect (u.writes (Elt Ideal) e M1))
    (hW1 : W1 = u.readAt (Elt Ideal) (Rect.unit (s := S256x512) ![0, 0] S256x512.size inv).toLoadRect (u.writes (Elt Ideal) e M2))
    (hW2 : W2 = u.readAt (Elt Ideal) (Rect.unit (s := S256x512) ![0, 0] S256x512.size inv).toLoadRect (u.writes (Elt Ideal) e M3))
    (hW3 : W3 = u.readAt (Elt Ideal) (Rect.unit (s := S256x512) ![0, 0] S256x512.size inv).toLoadRect (u.writes (Elt Ideal) e M4))
    (hp1 : ∀ j, p1 j = hidA k0_pay18 X0 W0 j)
    (hp2 : ∀ j, p2 j = hidA (cellA k0_pay18 X0 W0) X1 W1 j)
    (hp3 : ∀ j, p3 j = hidA (cellA (cellA k0_pay18 X0 W0) X1 W1) X2 W2 j)
    (hz : ∀ n k, z (ix2 n k) = 0) (hp : ∀ n k, p (ix2 n k) = xl n k)
    (hg0 : ∀ r, g0 (ix2 0 r) = gb 0 r) (hg1 : ∀ r, g1 (ix2 0 r) = gb 1 r) (hg2 : ∀ r, g2 (ix2 0 r) = gb 2 r) (hg3 : ∀ r, g3 (ix2 0 r) = gb 3 r)
    (hT : XTail (v.read (Elt Ideal) (v.writes (Elt Ideal) f T))) (hM : WRest wk (u.read (Elt Ideal) (u.writes (Elt Ideal) e M))) :
    ∀ (reach : FVec Ideal S4x2048 .f32) (b5 : Ideal .f32) (w : FVec Ideal S1x128 .f32) (t : Fin 4) (n : Fin 2048),
      outA reach b5 (rowA w k0_pay18 X0 W0) (rowA w (cellA k0_pay18 X0 W0) X1 W1) (rowA w (cellA (cellA k0_pay18 X0 W0) X1 W1) X2 W2)
          (rowA w (cellA (cellA (cellA k0_pay18 X0 W0) X1 W1) X2 W2) X3 W3) (ix2 t n)
        = masked (reach (ix2 t n)) (kscore (fun k => w (ix2 0 k)) b5 (stOf wk gb xl n (t.val + 1)).2) := by
  subst hL2
  subst hL3
  subst hL4
  subst hL5
  subst hM1
  subst hM2
  subst hM3
  subst hM4
  have m1 := w_step u e M inw g0 hM
  have m2 := w_step u e _ inw g1 m1
  have m3 := w_step u e _ inw g2 m2
  have w0 : ∀ k r, W0 (ix2 k r) = wcol wk (gb 0) k r := fun k r => by
    rw [hW0, w_read u e _ inw inv g0 hM k r, funext hg0]
  have w1 : ∀ k r, W1 (ix2 k r) = wcol wk (gb 1) k r := fun k r => by
    rw [hW1, w_read u e _ inw inv g1 m1 k r, funext hg1]
  have w2 : ∀ k r, W2 (ix2 k r) = wcol wk (gb 2) k r := fun k r => by
    rw [hW2, w_read u e _ inw inv g2 m2 k r, funext hg2]
  have w3 : ∀ k r, W3 (ix2 k r) = wcol wk (gb 3) k r := fun k r => by
    rw [hW3, w_read u e _ inw inv g3 m3 k r, funext hg3]
  have i1 := x_base (xl := xl) (h := hOf wk gb xl) v f T inb64 inbp z p hT hz hp fun n hn k => by
    rw [(hOf_row wk gb xl n ⟨n.val, hn⟩ 0 (by simp)).1]
    rfl
  obtain ⟨c1, h1, r1⟩ := one_step v f wk gb xl 0 0 rfl (by decide) k0_pay18 _ inr0 X0 W0 hX0 i1 w0 fun n k => pay18_apply n k
  have i2 := next_rows v f wk gb xl 1 2048 rfl _ inb1 p1 i1 fun n k => (hp1 _).trans (h1 n k)
  obtain ⟨c2, h2, r2⟩ := one_step v f wk gb xl 1 2048 rfl (by decide) _ _ inr1 X1 W1 hX1 i2 w1 c1
  have i3 := next_rows v f wk gb xl 2 4096 rfl _ inb2 p2 i2 fun n k => (hp2 _).trans (h2 n k)
  obtain ⟨c3, h3, r3⟩ := one_step v f wk gb xl 2 4096 rfl (by decide) _ _ inr2 X2 W2 hX2 i3 w2 c2
  have i4 := next_rows v f wk gb xl 3 6144 rfl _ inb3 p3 i3 fun n k => (hp3 _).trans (h3 n k)
  obtain ⟨c4, h4, r4⟩ := one_step v f wk gb xl 3 6144 rfl (by decide) _ _ inr3 X3 W3 hX3 i4 w3 c3
  intro reach b5 w t n
  rw [outA_apply]
  unfold kscore
  fin_vals t with ht
  · obtain rfl : t = 0 := Fin.ext ht
    exact congrArg (fun s => masked _ (s + b5)) (r1 w n)
  · obtain rfl : t = 1 := Fin.ext ht
    exact congrArg (fun s => masked _ (s + b5)) (r2 w n)
  · obtain rfl : t = 2 := Fin.ext ht
    exact congrArg (fun s => masked _ (s + b5)) (r3 w n)
  · obtain rfl : t = 3 := Fin.ext ht
    exact congrArg (fun s => masked _ (s + b5)) (r4 w n)

end Four

end Cert.KernelIdeal.Blk

end
-- ==== Proof.Graph.lean ====
module

public import proofs.«01_k».proof.Proof.Chain
public import Idealize.ShloMosaic.Lib.WholeRead

@[expose] public section

set_option maxRecDepth 16384

/-! The two graphs of one grid point: the words that the point's run computes for each, given by equations, and the block of
scores that they hold. -/

noncomputable section

namespace Cert.KernelIdeal.Blk

open Idealize.ShloMosaic Cert.KernelIdeal Cert.KernelIdeal.Gen Cert.Lstm

section Whole

variable {sig : RefSig} {κ : Kind} {sp : Space} {s : Shape} {e : EltTy} {m : Memref sig κ sp s e}

/-- A whole operand, read from its start in its own sizes, is the operand. -/
theorem read_all (h : m.IsWhole) (X : s.Idx → Elt Ideal e) {off : Fin s.rank → ℕ} (inb : ∀ a, off a + s.size a ≤ s.size a) :
    View.readAt (Elt Ideal) m.view (Rect.unit (s := s) off s.size inb).toLoadRect (h.unread X) = X := by
  funext x
  refine (h.readAt_unread X _ x).trans (congrArg X (funext fun a => Fin.ext ?_))
  show off a + 1 * (x a).val = (x a).val
  have := inb a
  omega

end Whole

/-- The gate rows of a graph of the pair, step by step. -/
def gbN (x0 : Vec Ideal S4x4096x67 .f32) (x1 : Vec Ideal S1x2048 .f32) (x2 : Vec Ideal S64x64 .f32) (x3 : Vec Ideal S1x64 .f32)
    (x9 : Vec Ideal S64x512 .f32) (x10 : Vec Ideal S1x512 .f32) (g : Fin 2) (t : ℕ) (r : Fin 512) : EReal :=
  gbA x0 x1 x2 x3 x9 x10 g ⟨t % 4, Nat.mod_lt _ (by decide)⟩ r

/-- What a point stores for step `t` of node `n` of graph `g` of the pair. -/
def blkVal (x0 : Vec Ideal S4x4096x67 .f32) (x1 : Vec Ideal S1x2048 .f32) (x2 : Vec Ideal S64x64 .f32) (x3 : Vec Ideal S1x64 .f32)
    (x4 : Vec Ideal S64x64 .f32) (x5 : Vec Ideal S1x64 .f32) (x6 : Vec Ideal S1x128 .f32) (x7 : Vec Ideal S1x1 .f32)
    (x9 : Vec Ideal S64x512 .f32) (x10 : Vec Ideal S1x512 .f32) (wk : Fin 192 → Fin 512 → EReal) (g : Fin 2) (t : Fin 4) (n : Fin 2048) : EReal :=
  masked (x0 (ix3 t (at2 g n) 65)) (kscore (fun k => x6 (ix2 0 k)) (x7 (ix2 0 0))
    (stOf wk (gbN x0 x1 x2 x3 x9 x10 g) (xlA x0 x4 x5 g) n (t.val + 1)).2)

section Graphs

variable {sig : RefSig} {κ : Kind} {sp : Space} {v : View sig κ sp S8192x256 .f32} {f : v.ty.Contents (Elt Ideal)}
  {sig' : RefSig} {κ' : Kind} {sp' : Space} {u : View sig' κ' sp' S256x512 .f32} {e : u.ty.Contents (Elt Ideal)}
  {T : List (View.Piece (Elt Ideal) S8192x256 .f32)} {M : List (View.Piece (Elt Ideal) S256x512 .f32)}
  {y0 x0 : Vec Ideal S4x4096x67 .f32} {y1 x1 : Vec Ideal S1x2048 .f32} {y2 x2 : Vec Ideal S64x64 .f32} {y3 x3 : Vec Ideal S1x64 .f32}
  {y4 x4 : Vec Ideal S64x64 .f32} {y5 x5 : Vec Ideal S1x64 .f32} {y6 x6 : Vec Ideal S1x128 .f32} {y7 x7 : Vec Ideal S1x1 .f32}
  {y9 x9 : Vec Ideal S64x512 .f32} {y10 x10 : Vec Ideal S1x512 .f32} {wk : Fin 192 → Fin 512 → EReal}
  {p1 p2 p3 : Vec Ideal S2048x128 .f32}
  {X0 X1 X2 X3 : Vec Ideal S2048x256 .f32} {W0 W1 W2 W3 : Vec Ideal S256x512 .f32}
  {L2 L3 L4 L5 : List (View.Piece (Elt Ideal) S8192x256 .f32)} {M1 M2 M3 M4 : List (View.Piece (Elt Ideal) S256x512 .f32)}

/-- The first graph's words hold its block of scores. -/
theorem first_graph
    {inb64 : ∀ a, (![0, 64] : Fin 2 → ℕ) a + S2048x128.size a ≤ S8192x256.size a}
    {inbp : ∀ a, (![0, 0] : Fin 2 → ℕ) a + S8192x64.size a ≤ S8192x256.size a}
    {inb1 : ∀ a, (![2048, 64] : Fin 2 → ℕ) a + S2048x128.size a ≤ S8192x256.size a}
    {inb2 : ∀ a, (![4096, 64] : Fin 2 → ℕ) a + S2048x128.size a ≤ S8192x256.size a}
    {inb3 : ∀ a, (![6144, 64] : Fin 2 → ℕ) a + S2048x128.size a ≤ S8192x256.size a}
    {inr0 : ∀ a, (![0, 0] : Fin 2 → ℕ) a + S2048x256.size a ≤ S8192x256.size a}
    {inr1 : ∀ a, (![2048, 0] : Fin 2 → ℕ) a + S2048x256.size a ≤ S8192x256.size a}
    {inr2 : ∀ a, (![4096, 0] : Fin 2 → ℕ) a + S2048x256.size a ≤ S8192x256.size a}
    {inr3 : ∀ a, (![6144, 0] : Fin 2 → ℕ) a + S2048x256.size a ≤ S8192x256.size a}
    {inw : ∀ a, (![192, 0] : Fin 2 → ℕ) a + S1x512.size a ≤ S256x512.size a}
    {inv : ∀ a, (![0, 0] : Fin 2 → ℕ) a + S256x512.size a ≤ S256x512.size a}
    {cst : FVec Ideal S2048x512 .f32} {r2 : _} {r3 : _} {r4 : _} {r5 : _} {r6 : _} {r7 : _} {r8 : _} {r9 r11 : FVec Ideal S2048x128 .f32} {r10 r12 r17 : FVec Ideal S1x2048 .f32} {r13 r14 r15 r16 r18 r19 : _}
    (hr19 : r19 = k0_pay45 r11 r13 r14 r15 X3 W3) (hr18 : r18 = k0_pay44 X3 W3)
    (hr17 : r17 = k0_pay41 r6 r11 r13 r14 r15 r16)
    (hr13 : r13 = k0_pay34 X2 W2) (hr14 : r14 = k0_pay35 X2 W2) (hr15 : r15 = k0_pay36 X2 W2) (hr16 : r16 = k0_pay37 X2 W2)
    (hr12 : r12 = k0_pay31 r6 r9 X1 W1 cst) (hcst : cst = constant S2048x512 .f32 0#32) (hr11 : r11 = k0_pay28 r9 X1 W1 cst)
    (hr10 : r10 = k0_pay25 r6 k0_pay18 X0 W0) (hr9 : r9 = k0_pay22 k0_pay18 X0 W0)
    (hX3 : X3 = v.readAt (Elt Ideal) (Rect.unit (s := S8192x256) ![6144, 0] S2048x256.size inr3).toLoadRect (v.writes (Elt Ideal) f L5))
    (hX2 : X2 = v.readAt (Elt Ideal) (Rect.unit (s := S8192x256) ![4096, 0] S2048x256.size inr2).toLoadRect (v.writes (Elt Ideal) f L4))
    (hX1 : X1 = v.readAt (Elt Ideal) (Rect.unit (s := S8192x256) ![2048, 0] S2048x256.size inr1).toLoadRect (v.writes (Elt Ideal) f L3))
    (hX0 : X0 = v.readAt (Elt Ideal) (Rect.unit (s := S8192x256) ![0, 0] S2048x256.size inr0).toLoadRect (v.writes (Elt Ideal) f L2))
    (hW3 : W3 = u.readAt (Elt Ideal) (Rect.unit (s := S256x512) ![0, 0] S256x512.size inv).toLoadRect (u.writes (Elt Ideal) e M4))
    (hW2 : W2 = u.readAt (Elt Ideal) (Rect.unit (s := S256x512) ![0, 0] S256x512.size inv).toLoadRect (u.writes (Elt Ideal) e M3))
    (hW1 : W1 = u.readAt (Elt Ideal) (Rect.unit (s := S256x512) ![0, 0] S256x512.size inv).toLoadRect (u.writes (Elt Ideal) e M2))
    (hW0 : W0 = u.readAt (Elt Ideal) (Rect.unit (s := S256x512) ![0, 0] S256x512.size inv).toLoadRect (u.writes (Elt Ideal) e M1))
    (hL5 : L5 = ⟨Rect.unit ![6144, 64] S2048x128.size inb3, p3⟩ :: L4)
    (hL4 : L4 = ⟨Rect.unit ![4096, 64] S2048x128.size inb2, p2⟩ :: L3)
    (hL3 : L3 = ⟨Rect.unit ![2048, 64] S2048x128.size inb1, p1⟩ :: L2)
    (hL2 : L2 = ⟨Rect.unit ![0, 64] S2048x128.size inb64, k0_pay15 (F := Ideal)⟩ :: ⟨Rect.unit ![0, 0] S8192x64.size inbp, k0_pay14 r2 y4 y5⟩ :: T)
    (hM4 : M4 = ⟨Rect.unit ![192, 0] S1x512.size inw, k0_pay42 r5⟩ :: M3)
    (hM3 : M3 = ⟨Rect.unit ![192, 0] S1x512.size inw, k0_pay32 r5⟩ :: M2)
    (hM2 : M2 = ⟨Rect.unit ![192, 0] S1x512.size inw, k0_pay26 r5⟩ :: M1)
    (hM1 : M1 = ⟨Rect.unit ![192, 0] S1x512.size inw, k0_pay20 r8⟩ :: M)
    (hp1 : p1 = k0_pay24 k0_pay18 X0 W0) (hp2 : p2 = k0_pay30 r9 X1 W1 cst) (hp3 : p3 = k0_pay40 r11 r13 r14 r15 r16)
    (hr8 : r8 = k0_pay19 r4 y9 y10) (hr5 : r5 = k0_pay13 r4 y9 y10) (hr4 : r4 = k0_pay12 y0 y1 y1 y1 y1 y2 y3)
    (hr2 : r2 = k0_pay10 y0) (hr3 : r3 = k0_pay11 y0) (hr6 : r6 = k0_pay16 y6) (hr7 : r7 = k0_pay17 y7)
    (hy0 : y0 = x0)
    (hy1 : y1 = x1)
    (hy2 : y2 = x2)
    (hy3 : y3 = x3)
    (hy4 : y4 = x4)
    (hy5 : y5 = x5)
    (hy6 : y6 = x6)
    (hy7 : y7 = x7)
    (hy9 : y9 = x9)
    (hy10 : y10 = x10)
    (hT : XTail (v.read (Elt Ideal) (v.writes (Elt Ideal) f T))) (hM : WRest wk (u.read (Elt Ideal) (u.writes (Elt Ideal) e M)))
    (t : Fin 4) (n : Fin 2048) :
    k0_pay46 r3 r6 r7 r10 r12 r17 r18 r19 (ix2 t n) = blkVal x0 x1 x2 x3 x4 x5 x6 x7 x9 x10 wk 0 t n := by
  subst hr19 hr18 hr17 hr13 hr14 hr15 hr16 hr12 hcst hr11 hr10 hr9 hp1 hp2 hp3 hr8 hr5 hr4 hr2 hr3 hr6 hr7
  subst hy0 hy1 hy2 hy3 hy4 hy5 hy6 hy7 hy9 hy10
  rw [pay46_eq, pay41_eq, pay31_eq, pay28_eq, pay17_eq]
  refine (four_steps v f u e T M wk (gbN y0 y1 y2 y3 y9 y10 0) (xlA y0 y4 y5 0) inb64 inbp inb1 inb2 inb3 inr0 inr1 inr2 inr3 inw inv
    (k0_pay15 (F := Ideal)) (k0_pay14 (k0_pay10 y0) y4 y5) _ _ _ _ _ _ _ X0 X1 X2 X3 W0 W1 W2 W3 L2 L3 L4 L5 M1 M2 M3 M4 hL2 hL3 hL4 hL5 hM1 hM2 hM3 hM4
    hX0 hX1 hX2 hX3 hW0 hW1 hW2 hW3 (pay24_apply _ X0 W0) (pay30_apply _ X1 W1) (pay40_apply _ X2 W2) pay15_apply (pay14_apply y0 y4 y5)
    (fun r => (pay19_apply y9 y10 _ r).trans (pay13_apply y0 y1 y2 y3 y9 y10 0 r))
    (fun r => (pay26_apply _ r).trans (pay13_apply y0 y1 y2 y3 y9 y10 1 r))
    (fun r => (pay32_apply _ r).trans (pay13_apply y0 y1 y2 y3 y9 y10 2 r))
    (fun r => (pay42_apply _ r).trans (pay13_apply y0 y1 y2 y3 y9 y10 3 r)) hT hM
    (k0_pay11 y0) _ (k0_pay16 y6) t n).trans ?_
  rw [pay11_apply]
  simp only [pay16_apply]
  rfl

/-- The second graph's words hold its block of scores. -/
theorem second_graph
    {inb64 : ∀ a, (![0, 64] : Fin 2 → ℕ) a + S2048x128.size a ≤ S8192x256.size a}
    {inbp : ∀ a, (![0, 0] : Fin 2 → ℕ) a + S8192x64.size a ≤ S8192x256.size a}
    {inb1 : ∀ a, (![2048, 64] : Fin 2 → ℕ) a + S2048x128.size a ≤ S8192x256.size a}
    {inb2 : ∀ a, (![4096, 64] : Fin 2 → ℕ) a + S2048x128.size a ≤ S8192x256.size a}
    {inb3 : ∀ a, (![6144, 64] : Fin 2 → ℕ) a + S2048x128.size a ≤ S8192x256.size a}
    {inr0 : ∀ a, (![0, 0] : Fin 2 → ℕ) a + S2048x256.size a ≤ S8192x256.size a}
    {inr1 : ∀ a, (![2048, 0] : Fin 2 → ℕ) a + S2048x256.size a ≤ S8192x256.size a}
    {inr2 : ∀ a, (![4096, 0] : Fin 2 → ℕ) a + S2048x256.size a ≤ S8192x256.size a}
    {inr3 : ∀ a, (![6144, 0] : Fin 2 → ℕ) a + S2048x256.size a ≤ S8192x256.size a}
    {inw : ∀ a, (![192, 0] : Fin 2 → ℕ) a + S1x512.size a ≤ S256x512.size a}
    {inv : ∀ a, (![0, 0] : Fin 2 → ℕ) a + S256x512.size a ≤ S256x512.size a}
    {r r1 : _} {r20 : _} {r21 : _} {r22 r23 r24 r25 : _} {r26 : FVec Ideal S4x512 .f32} {r27 : FVec Ideal S1x128 .f32} {r28 : Ideal .f32} {r31 : _} {r29 r32 r34 : FVec Ideal S2048x128 .f32} {r30 r33 r35 : FVec Ideal S1x2048 .f32} {r36 r37 r38 : _}
    (hr38 : r38 = k0_pay80 X3 W3) (hr37 : r37 = k0_pay79 X3 W3) (hr36 : r36 = k0_pay78 X3 W3)
    (hr35 : r35 = k0_pay76 r27 r32 X2 W2) (hr34 : r34 = k0_pay73 r32 X2 W2)
    (hr33 : r33 = k0_pay70 r27 r29 X1 W1) (hr32 : r32 = k0_pay67 r29 X1 W1)
    (hr30 : r30 = k0_pay63 y6 X0 W0) (hr29 : r29 = k0_pay60 X0 W0)
    (hX3 : X3 = v.readAt (Elt Ideal) (Rect.unit (s := S8192x256) ![6144, 0] S2048x256.size inr3).toLoadRect (v.writes (Elt Ideal) f L5))
    (hX2 : X2 = v.readAt (Elt Ideal) (Rect.unit (s := S8192x256) ![4096, 0] S2048x256.size inr2).toLoadRect (v.writes (Elt Ideal) f L4))
    (hX1 : X1 = v.readAt (Elt Ideal) (Rect.unit (s := S8192x256) ![2048, 0] S2048x256.size inr1).toLoadRect (v.writes (Elt Ideal) f L3))
    (hX0 : X0 = v.readAt (Elt Ideal) (Rect.unit (s := S8192x256) ![0, 0] S2048x256.size inr0).toLoadRect (v.writes (Elt Ideal) f L2))
    (hW3 : W3 = u.readAt (Elt Ideal) (Rect.unit (s := S256x512) ![0, 0] S256x512.size inv).toLoadRect (u.writes (Elt Ideal) e M4))
    (hW2 : W2 = u.readAt (Elt Ideal) (Rect.unit (s := S256x512) ![0, 0] S256x512.size inv).toLoadRect (u.writes (Elt Ideal) e M3))
    (hW1 : W1 = u.readAt (Elt Ideal) (Rect.unit (s := S256x512) ![0, 0] S256x512.size inv).toLoadRect (u.writes (Elt Ideal) e M2))
    (hW0 : W0 = u.readAt (Elt Ideal) (Rect.unit (s := S256x512) ![0, 0] S256x512.size inv).toLoadRect (u.writes (Elt Ideal) e M1))
    (hL5 : L5 = ⟨Rect.unit ![6144, 64] S2048x128.size inb3, p3⟩ :: L4)
    (hL4 : L4 = ⟨Rect.unit ![4096, 64] S2048x128.size inb2, p2⟩ :: L3)
    (hL3 : L3 = ⟨Rect.unit ![2048, 64] S2048x128.size inb1, p1⟩ :: L2)
    (hL2 : L2 = ⟨Rect.unit ![0, 64] S2048x128.size inb64, k0_pay55 (F := Ideal)⟩ :: ⟨Rect.unit ![0, 0] S8192x64.size inbp, k0_pay54 r20 y4 y5⟩ :: T)
    (hM4 : M4 = ⟨Rect.unit ![192, 0] S1x512.size inw, k0_pay77 r26⟩ :: M3)
    (hM3 : M3 = ⟨Rect.unit ![192, 0] S1x512.size inw, k0_pay71 r26⟩ :: M2)
    (hM2 : M2 = ⟨Rect.unit ![192, 0] S1x512.size inw, k0_pay65 r31⟩ :: M1)
    (hM1 : M1 = ⟨Rect.unit ![192, 0] S1x512.size inw, k0_pay58 r26⟩ :: M)
    (hp1 : p1 = k0_pay62 X0 W0) (hp2 : p2 = k0_pay69 r29 X1 W1) (hp3 : p3 = k0_pay75 r32 X2 W2)
    (hr31 : r31 = k0_pay64 r26) (hr26 : r26 = k0_pay53 r22 r23 r24 r25 y2 y3 y9 y10)
    (hr22 : r22 = k0_pay49 r y1) (hr23 : r23 = k0_pay50 r y1) (hr24 : r24 = k0_pay51 r y1) (hr25 : r25 = k0_pay52 r y1)
    (hr20 : r20 = k0_pay47 r) (hr21 : r21 = k0_pay48 r1) (hr1 : r1 = k0_pay9 y0) (hr : r = y0)
    (hr27 : r27 = k0_pay56 y6) (hr28 : r28 = k0_pay57 y7)
    (hy0 : y0 = x0)
    (hy1 : y1 = x1)
    (hy2 : y2 = x2)
    (hy3 : y3 = x3)
    (hy4 : y4 = x4)
    (hy5 : y5 = x5)
    (hy6 : y6 = x6)
    (hy7 : y7 = x7)
    (hy9 : y9 = x9)
    (hy10 : y10 = x10)
    (hT : XTail (v.read (Elt Ideal) (v.writes (Elt Ideal) f T))) (hM : WRest wk (u.read (Elt Ideal) (u.writes (Elt Ideal) e M)))
    (t : Fin 4) (n : Fin 2048) :
    k0_pay1 r21 r27 r28 r30 r33 r34 r35 r36 r37 r38 (ix2 t n) = blkVal x0 x1 x2 x3 x4 x5 x6 x7 x9 x10 wk 1 t n := by
  subst hr38 hr37 hr36 hr35 hr34 hr33 hr32 hr30 hr29 hp1 hp2 hp3 hr31 hr26 hr22 hr23 hr24 hr25 hr20 hr21 hr1 hr hr27 hr28
  subst hy0 hy1 hy2 hy3 hy4 hy5 hy6 hy7 hy9 hy10
  rw [pay1_eq, pay76_eq, pay73_eq, pay70_eq, pay67_eq, pay63_eq, pay60_eq, pay57_eq]
  refine (four_steps v f u e T M wk (gbN r y1 y2 y3 y9 y10 1) (xlA r y4 y5 1) inb64 inbp inb1 inb2 inb3 inr0 inr1 inr2 inr3 inw inv
    (k0_pay55 (F := Ideal)) (k0_pay54 (k0_pay47 r) y4 y5) _ _ _ _ _ _ _ X0 X1 X2 X3 W0 W1 W2 W3 L2 L3 L4 L5 M1 M2 M3 M4 hL2 hL3 hL4 hL5 hM1 hM2 hM3 hM4
    hX0 hX1 hX2 hX3 hW0 hW1 hW2 hW3 (pay62_apply X0 W0) (pay69_apply _ X1 W1) (pay75_apply _ X2 W2) pay55_apply (pay54_apply r y4 y5)
    (fun i => (pay58_apply _ i).trans (pay53_apply r y1 y2 y3 y9 y10 0 i))
    (fun i => (pay65_apply _ i).trans (pay53_apply r y1 y2 y3 y9 y10 1 i))
    (fun i => (pay71_apply _ i).trans (pay53_apply r y1 y2 y3 y9 y10 2 i))
    (fun i => (pay77_apply _ i).trans (pay53_apply r y1 y2 y3 y9 y10 3 i)) hT hM
    (k0_pay48 (k0_pay9 r)) _ (k0_pay56 y6) t n).trans ?_
  rw [pay48_apply]
  simp only [pay56_apply]
  rfl

end Graphs

end Cert.KernelIdeal.Blk

end
-- ==== Proof.Point.lean ====
module

public import proofs.«01_k».proof.Proof.Graph
public import proofs.«01_k».proof.Proof.Gen.KernelIdeal.Value

@[expose] public section

set_option maxRecDepth 16384

/-! What one grid point's run leaves: in its block of the output the two graphs' scores, in each scratch array what the next
point needs of it. The first point (case A) fills the scratch arrays first; every other point (case B) finds them as the
point before left them. -/

noncomputable section

namespace Cert.KernelIdeal.Blk

open Idealize.ShloMosaic Cert.KernelIdeal Cert.KernelIdeal.Gen Cert.Lstm

variable (c : Dev nD) (i : grid0.Coords)
  {arg1 : Memref sig .tc .vmem S4x4096x67 .f32} (harg1 : arg1.IsWhole) {arg2 : Memref sig .tc .vmem S1x2048 .f32} (harg2 : arg2.IsWhole) {arg3 : Memref sig .tc .vmem S64x64 .f32} (harg3 : arg3.IsWhole) {arg4 : Memref sig .tc .vmem S1x64 .f32} (harg4 : arg4.IsWhole) {arg5 : Memref sig .tc .vmem S64x64 .f32} (harg5 : arg5.IsWhole) {arg6 : Memref sig .tc .vmem S1x64 .f32} (harg6 : arg6.IsWhole) {arg7 : Memref sig .tc .vmem S1x128 .f32} (harg7 : arg7.IsWhole) {arg8 : Memref sig .tc .vmem S1x1 .f32} (harg8 : arg8.IsWhole) {arg9 : Memref sig .tc .vmem S192x512 .f32} (harg9 : arg9.IsWhole) {arg10 : Memref sig .tc .vmem S64x512 .f32} (harg10 : arg10.IsWhole) {arg11 : Memref sig .tc .vmem S1x512 .f32} (harg11 : arg11.IsWhole) {arg12 : Memref sig .tc .vmem S4x4096 .f32} (harg12 : arg12.IsWhole) {arg13 : Memref sig .tc .vmem S8192x256 .f32} (harg13 : arg13.IsWhole) {arg14 : Memref sig .tc .vmem S8192x256 .f32} (harg14 : arg14.IsWhole) {arg15 : Memref sig .tc .vmem S256x512 .f32} (harg15 : arg15.IsWhole) {arg16 : Memref sig .tc .vmem S256x512 .f32} (harg16 : arg16.IsWhole)

section First

variable (hc0 : cond0_0 i) (x0 : Vec Ideal S4x4096x67 .f32) (x1 : Vec Ideal S1x2048 .f32) (x2 : Vec Ideal S64x64 .f32) (x3 : Vec Ideal S1x64 .f32) (x4 : Vec Ideal S64x64 .f32) (x5 : Vec Ideal S1x64 .f32) (x6 : Vec Ideal S1x128 .f32) (x7 : Vec Ideal S1x1 .f32) (x8 : Vec Ideal S192x512 .f32) (x9 : Vec Ideal S64x512 .f32) (x10 : Vec Ideal S1x512 .f32)

/-- The first point's block at a node of the first graph. -/
theorem outA_first (t : Fin 4) (n : Fin 2048) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix2 t (at2 0 n))
      = blkVal x0 x1 x2 x3 x4 x5 x6 x7 x9 x10 (fun k r => x8 (ix2 k r)) 0 t n := by
  refine (View.read_writes_cons_unit_of_not_mem VO0_11 _ _ _ _ (ix2 t (at2 0 n)) rfl 1 (Or.inl (by
    show 2048 * 0 + n.val < 2048
    omega))).trans ?_
  refine (View.read_writes_cons_unit_of_mem VO0_11 _ _ _ _ (ix2 t (at2 0 n)) (ix2 t n) rfl (by
    intro a; fin_cases a
    · exact (Nat.zero_add _).symm
    · show 2048 * 0 + n.val = 0 + n.val; omega)).trans ?_
  exact first_graph rfl rfl rfl rfl rfl rfl rfl rfl rfl rfl rfl rfl rfl rfl rfl rfl rfl rfl rfl rfl rfl rfl rfl rfl rfl rfl rfl rfl rfl rfl rfl rfl rfl rfl rfl rfl rfl rfl (read_all harg1 _ _) (read_all harg2 _ _) (read_all harg3 _ _) (read_all harg4 _ _) (read_all harg5 _ _) (read_all harg6 _ _) (read_all harg7 _ _) (read_all harg8 _ _) (read_all harg10 _ _) (read_all harg11 _ _)
    (tail_first _ _ _ _ pay3_apply)
    (rest_first _ _ _ _ _ _ pay5_apply fun k r => (pay4_apply _ _).trans (congrFun (read_all harg9 x8 _) (ix2 k r))) t n

/-- The first point's block at a node of the second graph. -/
theorem outA_second (t : Fin 4) (n : Fin 2048) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix2 t (at2 1 n))
      = blkVal x0 x1 x2 x3 x4 x5 x6 x7 x9 x10 (fun k r => x8 (ix2 k r)) 1 t n := by
  refine (View.read_writes_cons_unit_of_mem VO0_11 _ _ _ _ (ix2 t (at2 1 n)) (ix2 t n) rfl (by
    intro a; fin_cases a
    · exact (Nat.zero_add _).symm
    · show 2048 * 1 + n.val = 2048 + n.val; omega)).trans ?_
  exact second_graph rfl rfl rfl rfl rfl rfl rfl rfl rfl rfl rfl rfl rfl rfl rfl rfl rfl rfl rfl rfl rfl rfl rfl rfl rfl rfl rfl rfl rfl rfl rfl rfl rfl rfl rfl rfl rfl rfl rfl rfl (read_all harg1 _ _) (read_all harg2 _ _) (read_all harg3 _ _) (read_all harg4 _ _) (read_all harg5 _ _) (read_all harg6 _ _) (read_all harg7 _ _) (read_all harg8 _ _) (read_all harg10 _ _) (read_all harg11 _ _)
    (tail_first _ _ _ _ pay6_apply)
    (rest_first _ _ _ _ _ _ pay8_apply fun k r => (pay7_apply _ _).trans (congrFun (read_all harg9 x8 _) (ix2 k r))) t n

/-- The first point leaves the first left matrix's constant columns in place. -/
theorem soutA_0 : XTail (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10) :=
  tail_step VS0_0 _ _ _ _ _ (tail_step VS0_0 _ _ _ _ _ (tail_step VS0_0 _ _ _ _ _ (tail_step VS0_0 _ _ _ _ _
    (tail_feat VS0_0 _ _ _ _ (tail_first VS0_0 _ _ _ pay3_apply)))))

/-- It leaves the second left matrix's in place. -/
theorem soutA_1 : XTail (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10) :=
  tail_step VS0_1 _ _ _ _ _ (tail_step VS0_1 _ _ _ _ _ (tail_step VS0_1 _ _ _ _ _ (tail_step VS0_1 _ _ _ _ _
    (tail_feat VS0_1 _ _ _ _ (tail_first VS0_1 _ _ _ pay6_apply)))))

/-- It leaves the first right matrix's constant rows in place. -/
theorem soutA_2 : WRest (fun k r => x8 (ix2 k r)) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10) :=
  w_step VS0_2 _ _ _ _ (w_step VS0_2 _ _ _ _ (w_step VS0_2 _ _ _ _ (w_step VS0_2 _ _ _ _
    (rest_first VS0_2 _ _ _ _ _ pay5_apply fun k r => (pay4_apply _ _).trans (congrFun (read_all harg9 x8 _) (ix2 k r))))))

/-- It leaves the second right matrix's in place. -/
theorem soutA_3 : WRest (fun k r => x8 (ix2 k r)) (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10) :=
  w_step VS0_3 _ _ _ _ (w_step VS0_3 _ _ _ _ (w_step VS0_3 _ _ _ _ (w_step VS0_3 _ _ _ _
    (rest_first VS0_3 _ _ _ _ _ pay8_apply fun k r => (pay7_apply _ _).trans (congrFun (read_all harg9 x8 _) (ix2 k r))))))

end First

section Later

variable (hc0 : ¬cond0_0 i) (x0 : Vec Ideal S4x4096x67 .f32) (x1 : Vec Ideal S1x2048 .f32) (x2 : Vec Ideal S64x64 .f32) (x3 : Vec Ideal S1x64 .f32) (x4 : Vec Ideal S64x64 .f32) (x5 : Vec Ideal S1x64 .f32) (x6 : Vec Ideal S1x128 .f32) (x7 : Vec Ideal S1x1 .f32) (x8 : Vec Ideal S192x512 .f32) (x9 : Vec Ideal S64x512 .f32) (x10 : Vec Ideal S1x512 .f32) (xs0 : Vec Ideal S8192x256 .f32) (xs1 : Vec Ideal S8192x256 .f32) (xs2 : Vec Ideal S256x512 .f32) (xs3 : Vec Ideal S256x512 .f32)
  {wk : Fin 192 → Fin 512 → EReal}

/-- A later point's block at a node of the first graph. -/
theorem outB_first (h0 : XTail xs0) (h2 : WRest wk xs2) (t : Fin 4) (n : Fin 2048) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 xs2 xs3 (ix2 t (at2 0 n))
      = blkVal x0 x1 x2 x3 x4 x5 x6 x7 x9 x10 wk 0 t n := by
  refine (View.read_writes_cons_unit_of_not_mem VO0_11 _ _ _ _ (ix2 t (at2 0 n)) rfl 1 (Or.inl (by
    show 2048 * 0 + n.val < 2048
    omega))).trans ?_
  refine (View.read_writes_cons_unit_of_mem VO0_11 _ _ _ _ (ix2 t (at2 0 n)) (ix2 t n) rfl (by
    intro a; fin_cases a
    · exact (Nat.zero_add _).symm
    · show 2048 * 0 + n.val = 0 + n.val; omega)).trans ?_
  refine first_graph (T := []) (M := []) rfl rfl rfl rfl rfl rfl rfl rfl rfl rfl rfl rfl rfl rfl rfl rfl rfl rfl rfl rfl rfl rfl rfl rfl rfl rfl rfl rfl rfl rfl rfl rfl rfl rfl rfl rfl rfl rfl (read_all harg1 _ _) (read_all harg2 _ _) (read_all harg3 _ _) (read_all harg4 _ _) (read_all harg5 _ _) (read_all harg6 _ _) (read_all harg7 _ _) (read_all harg8 _ _) (read_all harg10 _ _) (read_all harg11 _ _) ?_ ?_ t n
  · rw [View.writes_nil, harg13.read_unread]; exact h0
  · rw [View.writes_nil, harg15.read_unread]; exact h2

/-- A later point's block at a node of the second graph. -/
theorem outB_second (h1 : XTail xs1) (h3 : WRest wk xs3) (t : Fin 4) (n : Fin 2048) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 xs2 xs3 (ix2 t (at2 1 n))
      = blkVal x0 x1 x2 x3 x4 x5 x6 x7 x9 x10 wk 1 t n := by
  refine (View.read_writes_cons_unit_of_mem VO0_11 _ _ _ _ (ix2 t (at2 1 n)) (ix2 t n) rfl (by
    intro a; fin_cases a
    · exact (Nat.zero_add _).symm
    · show 2048 * 1 + n.val = 2048 + n.val; omega)).trans ?_
  refine second_graph (T := []) (M := []) rfl rfl rfl rfl rfl rfl rfl rfl rfl rfl rfl rfl rfl rfl rfl rfl rfl rfl rfl rfl rfl rfl rfl rfl rfl rfl rfl rfl rfl rfl rfl rfl rfl rfl rfl rfl rfl rfl rfl rfl (read_all harg1 _ _) (read_all harg2 _ _) (read_all harg3 _ _) (read_all harg4 _ _) (read_all harg5 _ _) (read_all harg6 _ _) (read_all harg7 _ _) (read_all harg8 _ _) (read_all harg10 _ _) (read_all harg11 _ _) ?_ ?_ t n
  · rw [View.writes_nil, harg14.read_unread]; exact h1
  · rw [View.writes_nil, harg16.read_unread]; exact h3

/-- A later point keeps the first left matrix's constant columns. -/
theorem soutB_0 (h : XTail xs0) : XTail (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 xs2 xs3) :=
  tail_step arg13.view _ _ _ _ _ (tail_step arg13.view _ _ _ _ _ (tail_step arg13.view _ _ _ _ _ (tail_step arg13.view _ _ _ _ _
    (tail_feat arg13.view _ [] _ _ (by rw [View.writes_nil, harg13.read_unread]; exact h)))))

/-- It keeps the second left matrix's. -/
theorem soutB_1 (h : XTail xs1) : XTail (sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 xs2 xs3) :=
  tail_step arg14.view _ _ _ _ _ (tail_step arg14.view _ _ _ _ _ (tail_step arg14.view _ _ _ _ _ (tail_step arg14.view _ _ _ _ _
    (tail_feat arg14.view _ [] _ _ (by rw [View.writes_nil, harg14.read_unread]; exact h)))))

/-- It keeps the first right matrix's constant rows. -/
theorem soutB_2 (h : WRest wk xs2) : WRest wk (sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 xs2 xs3) :=
  w_step arg15.view _ _ _ _ (w_step arg15.view _ _ _ _ (w_step arg15.view _ _ _ _ (w_step arg15.view _ [] _ _
    (by rw [View.writes_nil, harg15.read_unread]; exact h))))

/-- It keeps the second right matrix's. -/
theorem soutB_3 (h : WRest wk xs3) : WRest wk (sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 xs2 xs3) :=
  w_step arg16.view _ _ _ _ (w_step arg16.view _ _ _ _ (w_step arg16.view _ _ _ _ (w_step arg16.view _ [] _ _
    (by rw [View.writes_nil, harg16.read_unread]; exact h))))

end Later

end Cert.KernelIdeal.Blk

end
-- ==== Proof.Target.lean ====
module

public import proofs.«01_k».proof.Proof.Payloads

@[expose] public section

/-! What both programs compute, as a function of the eleven arguments: at step `t` and node `n` the score of the node's
hidden row after `t + 1` steps where the node is reached, and `⊥` elsewhere. -/

noncomputable section

namespace Cert.Lstm

open Idealize.ShloMosaic

/-- The parameters the argument arrays hold. -/
def weightsOf (a1 : Vec Ideal ⟨2, ![64, 64]⟩ .f32) (a2 : Vec Ideal ⟨1, ![64]⟩ .f32) (a3 : Vec Ideal ⟨2, ![64, 64]⟩ .f32)
    (a4 : Vec Ideal ⟨1, ![64]⟩ .f32) (a5 : Vec Ideal ⟨2, ![1, 128]⟩ .f32) (a6 : Vec Ideal ⟨1, ![1]⟩ .f32)
    (a7 a8 : Vec Ideal ⟨2, ![512, 128]⟩ .f32) (a9 a10 : Vec Ideal ⟨1, ![512]⟩ .f32) : Weights where
  W6 k j := a1 (ix2 k j)
  b6 k := a2 (ix1 k)
  W7 k j := a3 (ix2 k j)
  b7 k := a4 (ix1 k)
  W5 k := a5 (ix2 0 k)
  b5 := a6 (ix1 0)
  Wih r k := a7 (ix2 r k)
  Whh r k := a8 (ix2 r k)
  bih r := a9 (ix1 r)
  bhh r := a10 (ix1 r)

/-- Step `s` as an index; the steps asked for are below four. -/
def stepIx (s : ℕ) : Fin 4 := ⟨s % 4, Nat.mod_lt _ (by decide)⟩

/-- Node `n` of graph `b`, in the array of all nodes. -/
def nodeAt (b : Fin 16) (n : Fin 2048) : Fin 32768 := ⟨2048 * b.val + n.val, by omega⟩

/-- The mean over graph `b`'s nodes of entry `j` of step `s`'s features. -/
def meanOf (a0 : Vec Ideal ⟨3, ![4, 32768, 67]⟩ .f32) (b : Fin 16) (s : ℕ) (j : Fin 64) : EReal :=
  (∑ n : Fin 2048, a0 (ix3 (stepIx s) (nodeAt b n) ⟨j.val, by omega⟩)) * ((1 / 2048 : ℝ) : EReal)

/-- Entry `j` of step `s`'s features of a node. -/
def ownOf (a0 : Vec Ideal ⟨3, ![4, 32768, 67]⟩ .f32) (b : Fin 16) (n : Fin 2048) (s : ℕ) (j : Fin 64) : EReal :=
  a0 (ix3 (stepIx s) (nodeAt b n) ⟨j.val, by omega⟩)

/-- The features of step `s` a node is given: its graph's half, then its own. -/
def featOf (w : Weights) (a0 : Vec Ideal ⟨3, ![4, 32768, 67]⟩ .f32) (b : Fin 16) (n : Fin 2048) (s : ℕ) : Fin 128 → EReal :=
  feat (globRow w (meanOf a0 b s)) (locRow w (ownOf a0 b n s))

/-- The result at step `t`, node `n` of graph `b`. -/
def resultAt (w : Weights) (a0 : Vec Ideal ⟨3, ![4, 32768, 67]⟩ .f32) (t : Fin 4) (b : Fin 16) (n : Fin 2048) : EReal :=
  Cert.KernelIdeal.Blk.masked (a0 (ix3 t (nodeAt b n) 65)) (score w (st w (featOf w a0 b n) (t.val + 1)).2)

end Cert.Lstm

end
-- ==== Proof.Operands.lean ====
module

public import proofs.«01_k».proof.Proof.Point
public import proofs.«01_k».proof.Proof.Target
public import Idealize.ShloMosaic.Lib.Claim
public import Idealize.ShloMosaic.Lib.Pipeline.ValueKit
public import Idealize.ShloMosaic.Lib.Pointwise

@[expose] public section

set_option maxRecDepth 16384

/-! The eleven blocks a grid point is given, as entries of the arguments: the features' block is eight grid points' share of
the nodes, every other block is the whole array the host prepared. -/

noncomputable section

namespace Cert.KernelIdeal.Blk

open Idealize.ShloMosaic Idealize.ShloMosaic.TcCoe Cert.KernelIdeal Cert.KernelIdeal.Gen Cert.Lstm

variable (m : (ℓ : Loc nD τ sig) → Buf (Elt Ideal) ℓ) (c : Dev nD)

/-- The window block indices, decided over the grid. -/
theorem idx_all : ∀ t : Fin cfg0.N, win0_0.index t = ![0, t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- Block 0 is point `t`'s 4096 nodes. -/
theorem iblk0 (t : Fin cfg0.N) (s : Fin 4) (n : Fin 4096) (k : Fin 67) (h : 4096 * t.val + n.val < 32768) :
    iblk m c 0 t (ix3 s n k) = m ((c : Thread nD τ).loc main_arg0) (ix3 s ⟨4096 * t.val + n.val, h⟩ k) := by
  blk_ext! [iblk, V, idx_all t]

/-- Block 1 is the array it is cut from, whole. -/
theorem iblk1 (t : Fin cfg0.N) : iblk m c 1 t = V m c main_v24 := by
  blk_ext! [iblk, V, idx_all t]

/-- Block 2 is the array it is cut from, whole. -/
theorem iblk2 (t : Fin cfg0.N) : iblk m c 2 t = V m c main_v0 := by
  blk_ext! [iblk, V, idx_all t]

/-- Block 3 is the array it is cut from, whole. -/
theorem iblk3 (t : Fin cfg0.N) : iblk m c 3 t = V m c main_v25 := by
  blk_ext! [iblk, V, idx_all t]

/-- Block 4 is the array it is cut from, whole. -/
theorem iblk4 (t : Fin cfg0.N) : iblk m c 4 t = V m c main_v1 := by
  blk_ext! [iblk, V, idx_all t]

/-- Block 5 is the array it is cut from, whole. -/
theorem iblk5 (t : Fin cfg0.N) : iblk m c 5 t = V m c main_v26 := by
  blk_ext! [iblk, V, idx_all t]

/-- Block 6 is the array it is cut from, whole. -/
theorem iblk6 (t : Fin cfg0.N) : iblk m c 6 t = V m c main_v28 := by
  blk_ext! [iblk, V, idx_all t]

/-- Block 7 is the array it is cut from, whole. -/
theorem iblk7 (t : Fin cfg0.N) : iblk m c 7 t = V m c main_v29 := by
  blk_ext! [iblk, V, idx_all t]

/-- Block 8 is the array it is cut from, whole. -/
theorem iblk8 (t : Fin cfg0.N) : iblk m c 8 t = V m c main_v15 := by
  blk_ext! [iblk, V, idx_all t]

/-- Block 9 is the array it is cut from, whole. -/
theorem iblk9 (t : Fin cfg0.N) : iblk m c 9 t = V m c main_v19 := by
  blk_ext! [iblk, V, idx_all t]

/-- Block 10 is the array it is cut from, whole. -/
theorem iblk10 (t : Fin cfg0.N) : iblk m c 10 t = V m c main_v23 := by
  blk_ext! [iblk, V, idx_all t]

/-! ## What the host prepared -/

/-- A scale entry per gate column: one in the third quarter, a half elsewhere. -/
def scaleVec : FVec Ideal S512 .f32 :=
  concatenate S512 0 [⟨S256, broadcastInDim S256 ![] bcast_S_S256 (constant S_ .f32 0x3F000000#32)⟩,
    ⟨S128, broadcastInDim S128 ![] bcast_S_S128 (constant S_ .f32 0x3F800000#32)⟩,
    ⟨S128, broadcastInDim S128 ![] bcast_S_S128 (constant S_ .f32 0x3F000000#32)⟩] concatenates_S256_S128_S128_S512_d0

/-- The run of 256 halves, at an entry. -/
theorem half256 (i : S256.Idx) : broadcastInDim S256 ![] bcast_S_S256 (constant (F := Ideal) S_ .f32 0x3F000000#32) i = half := by
  rw [← ofBits_half]; pointwise!

/-- The run of 128 ones, at an entry. -/
theorem one128 (i : S128.Idx) : broadcastInDim S128 ![] bcast_S_S128 (constant (F := Ideal) S_ .f32 0x3F800000#32) i = (1 : EReal) := by
  pointwise!

/-- The run of 128 halves, at an entry. -/
theorem half128 (i : S128.Idx) : broadcastInDim S128 ![] bcast_S_S128 (constant (F := Ideal) S_ .f32 0x3F000000#32) i = half := by
  rw [← ofBits_half]; pointwise!

/-- The scales, entry by entry. -/
theorem scaleVec_apply (r : Fin 512) : scaleVec (ix1 r) = cs r := by
  unfold scaleVec cs
  by_cases h1 : r.val < 256
  · rw [if_neg (by omega)]
    refine (concatenate_apply_piece (t := S512) 0 _ _ (ix1 r) 0 (by simp) S256 _ rfl rfl 0 rfl (ix1 ⟨r.val, h1⟩) ?_ ?_).trans (half256 _)
    · intro b hb; exact absurd (Subsingleton.elim _ _) hb
    · exact Nat.zero_add _
  · by_cases h2 : r.val < 384
    · rw [if_pos (by omega)]
      refine (concatenate_apply_piece (t := S512) 0 _ _ (ix1 r) 1 (by simp) S128 _ rfl rfl 256 rfl (ix1 ⟨r.val - 256, by omega⟩) ?_ ?_).trans (one128 _)
      · intro b hb; exact absurd (Subsingleton.elim _ _) hb
      · show 256 + (r.val - 256) = r.val; omega
    · rw [if_neg (by omega)]
      refine (concatenate_apply_piece (t := S512) 0 _ _ (ix1 r) 2 (by simp) S128 _ rfl rfl 384 rfl (ix1 ⟨r.val - 384, by omega⟩) ?_ ?_).trans (half128 _)
      · intro b hb; exact absurd (Subsingleton.elim _ _) hb
      · show 384 + (r.val - 384) = r.val; omega

/-- The scales as one row. -/
def scaleRow : FVec Ideal S1x512 .f32 := broadcastInDim S1x512 ![1] bcast_S512_S1x512_1 scaleVec

/-- The scale row the host lays out, at a column. -/
theorem scaleRow_apply (r : Fin 512) : scaleRow (ix2 0 r) = cs r := by
  rw [← scaleVec_apply]
  unfold scaleRow
  generalize scaleVec = M
  pointwise!

/-- The weights before scaling: the node's half of the input matrix, then half the recurrent matrix. -/
def rawW (a7 a8 : FVec Ideal S512x128 .f32) : FVec Ideal S192x512 .f32 :=
  concatenate S192x512 0
    [⟨S64x512, extractStridedSlice S64x512 ![64, 0] (transpose S128x512 [1, 0] a7 transposes_S512x128_S128x512_1_0) slices_S128x512_S64x512_64_0⟩,
     ⟨S128x512, mulf (transpose S128x512 [1, 0] a8 transposes_S512x128_S128x512_1_0)
        (broadcastInDim S128x512 ![] bcast_S_S128x512 (constant S_ .f32 0x3F000000#32))⟩] concatenates_S64x512_S128x512_S192x512_d0

/-- The first 64 rows of the unscaled weights: the second half of the input weights, transposed. -/
theorem rawW_left (a7 : FVec Ideal S512x128 .f32) (k : Fin 64) (r : Fin 512) :
    extractStridedSlice S64x512 ![64, 0] (transpose S128x512 [1, 0] a7 transposes_S512x128_S128x512_1_0) slices_S128x512_S64x512_64_0 (ix2 k r)
      = a7 (ix2 r ⟨64 + k.val, by omega⟩) := by
  pointwise!

/-- The other 128 rows: the hidden weights, transposed and halved. -/
theorem rawW_right (a8 : FVec Ideal S512x128 .f32) (k : Fin 128) (r : Fin 512) :
    mulf (transpose S128x512 [1, 0] a8 transposes_S512x128_S128x512_1_0)
        (broadcastInDim S128x512 ![] bcast_S_S128x512 (constant S_ .f32 0x3F000000#32)) (ix2 k r)
      = a8 (ix2 r k) * half := by
  rw [← ofBits_half]
  pointwise!

/-- The unscaled weights at any row. -/
theorem rawW_apply (a7 a8 : FVec Ideal S512x128 .f32) (k : Fin 192) (r : Fin 512) :
    rawW a7 a8 (ix2 k r) = if h : k.val < 64 then a7 (ix2 r ⟨64 + k.val, by omega⟩) else a8 (ix2 r ⟨k.val - 64, by omega⟩) * half := by
  unfold rawW
  by_cases h : k.val < 64
  · rw [dif_pos h]
    refine (concatenate_pair_apply_left (t := S192x512) (s₁ := S64x512) (s₂ := S128x512) 0 _ _ _ (ix2 k r) rfl (ix2 ⟨k.val, h⟩ r) ?_).trans (rawW_left a7 _ _)
    intro b; fin_cases b <;> rfl
  · rw [dif_neg h]
    refine (concatenate_pair_apply_right (t := S192x512) (s₁ := S64x512) (s₂ := S128x512) 0 _ _ _ (ix2 k r) rfl rfl (ix2 ⟨k.val - 64, by omega⟩ r) ?_ ?_).trans (rawW_right a8 _ _)
    · intro b hb
      fin_cases b
      · exact absurd rfl hb
      · rfl
    · show (k.val - 64) + 64 = k.val
      omega

/-- The parameters the launch's argument arrays hold. -/
abbrev wts : Weights :=
  weightsOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- A matrix times a row that is spread over its rows, at an entry. -/
theorem mulRow_apply (x : FVec Ideal S192x512 .f32) (y : FVec Ideal S1x512 .f32) (k : Fin 192) (r : Fin 512) :
    mulf x (broadcastInDim S192x512 ![0, 1] bcast_S1x512_S192x512_0_1 y) (ix2 k r) = x (ix2 k r) * y (ix2 0 r) := by
  pointwise!

/-- The weights handed to the kernel, as the host computes them. -/
theorem v15_eq : V m c main_v15 = (mulf (rawW (m ((c : Thread nD τ).loc main_arg7)) (m ((c : Thread nD τ).loc main_arg8)))
    (broadcastInDim S192x512 ![0, 1] bcast_S1x512_S192x512_0_1 scaleRow) : FVec Ideal S192x512 .f32) := by
  rfl

/-- The scaled weights the kernel multiplies by. -/
theorem v15_apply (k : Fin 192) (r : Fin 512) : V m c main_v15 (ix2 k r) = kw (wts m c) k r := by
  rw [v15_eq]
  refine (mulRow_apply _ _ k r).trans ?_
  rw [rawW_apply, scaleRow_apply]
  rfl

/-- The first half of the input weights, transposed, times a row, at an entry. -/
theorem graphW_apply (a7 : FVec Ideal S512x128 .f32) (y : FVec Ideal S1x512 .f32) (j : Fin 64) (r : Fin 512) :
    mulf (extractStridedSlice S64x512 ![0, 0] (transpose S128x512 [1, 0] a7 transposes_S512x128_S128x512_1_0) slices_S128x512_S64x512_0_0)
      (broadcastInDim S64x512 ![0, 1] bcast_S1x512_S64x512_0_1 y) (ix2 j r) = a7 (ix2 r ⟨j.val, by omega⟩) * y (ix2 0 r) := by
  pointwise!

/-- The graph's gate weights handed to the kernel, as the host computes them. -/
theorem v19_eq : V m c main_v19 = (mulf (extractStridedSlice S64x512 ![0, 0] (transpose S128x512 [1, 0]
      (m ((c : Thread nD τ).loc main_arg7)) transposes_S512x128_S128x512_1_0) slices_S128x512_S64x512_0_0)
    (broadcastInDim S64x512 ![0, 1] bcast_S1x512_S64x512_0_1 scaleRow) : FVec Ideal S64x512 .f32) := by
  rfl

/-- The scaled weights of the graph's own features. -/
theorem v19_apply (j : Fin 64) (r : Fin 512) :
    V m c main_v19 (ix2 j r) = (wts m c).Wih r ⟨j.val, by omega⟩ * cs r := by
  rw [v19_eq]
  refine (graphW_apply _ _ j r).trans ?_
  rw [scaleRow_apply]
  rfl

/-- The sum of the two biases times a row, at an entry. -/
theorem biasRow_apply (a9 a10 : FVec Ideal S512 .f32) (y : FVec Ideal S1x512 .f32) (r : Fin 512) :
    mulf (broadcastInDim S1x512 ![1] bcast_S512_S1x512_1 (addf a9 a10)) y (ix2 0 r) = (a9 (ix1 r) + a10 (ix1 r)) * y (ix2 0 r) := by
  pointwise!

/-- The gate biases handed to the kernel, as the host computes them. -/
theorem v23_eq : V m c main_v23 = (mulf (broadcastInDim S1x512 ![1] bcast_S512_S1x512_1 (addf (m ((c : Thread nD τ).loc main_arg9))
      (m ((c : Thread nD τ).loc main_arg10)))) scaleRow : FVec Ideal S1x512 .f32) := by
  rfl

/-- The scaled bias row. -/
theorem v23_apply (r : Fin 512) : V m c main_v23 (ix2 0 r) = ((wts m c).bih r + (wts m c).bhh r) * cs r := by
  rw [v23_eq]
  refine (biasRow_apply _ _ _ r).trans ?_
  rw [scaleRow_apply]
  rfl

/-- The averaging row: `1 / 2048` everywhere. -/
theorem v24_apply (n : Fin 2048) : V m c main_v24 (ix2 0 n) = ((1 / 2048 : ℝ) : EReal) := by
  rw [← ofBits_inv2048]
  entry_read
  pointwise!

/-- The graph layer's matrix, input index first. -/
theorem v0_apply (i k : Fin 64) : V m c main_v0 (ix2 i k) = (wts m c).W6 k i := by
  have e : V m c main_v0 = (transpose S64x64 [1, 0] (m ((c : Thread nD τ).loc main_arg1)) transposes_S64x64_S64x64_1_0 : FVec Ideal S64x64 .f32) := by
    rfl
  rw [e]
  unfold wts weightsOf
  pointwise!

/-- The node layer's matrix, input index first. -/
theorem v1_apply (i k : Fin 64) : V m c main_v1 (ix2 i k) = (wts m c).W7 k i := by
  have e : V m c main_v1 = (transpose S64x64 [1, 0] (m ((c : Thread nD τ).loc main_arg3)) transposes_S64x64_S64x64_1_0 : FVec Ideal S64x64 .f32) := by
    rfl
  rw [e]
  unfold wts weightsOf
  pointwise!

/-- A bias of 64 laid out as a row. -/
theorem row64_apply (a : FVec Ideal S64 .f32) (k : Fin 64) : broadcastInDim S1x64 ![1] bcast_S64_S1x64_1 a (ix2 0 k) = a (ix1 k) := by
  pointwise!

/-- The graph layer's bias handed to the kernel. -/
theorem v25_apply (k : Fin 64) : V m c main_v25 (ix2 0 k) = (wts m c).b6 k := by
  have e : V m c main_v25 = (broadcastInDim S1x64 ![1] bcast_S64_S1x64_1 (m ((c : Thread nD τ).loc main_arg2)) : FVec Ideal S1x64 .f32) := by
    rfl
  rw [e]
  exact row64_apply _ k

/-- The node layer's bias handed to the kernel. -/
theorem v26_apply (k : Fin 64) : V m c main_v26 (ix2 0 k) = (wts m c).b7 k := by
  have e : V m c main_v26 = (broadcastInDim S1x64 ![1] bcast_S64_S1x64_1 (m ((c : Thread nD τ).loc main_arg4)) : FVec Ideal S1x64 .f32) := by
    rfl
  rw [e]
  exact row64_apply _ k

/-- The halved score weights, at an entry. -/
theorem halfRow_apply (a : FVec Ideal S1x128 .f32) (k : Fin 128) :
    mulf a (broadcastInDim S1x128 ![] bcast_S_S1x128 (constant S_ .f32 0x3F000000#32)) (ix2 0 k) = a (ix2 0 k) * half := by
  rw [← ofBits_half]; pointwise!

/-- The scoring row, halved. -/
theorem v28_apply (k : Fin 128) : V m c main_v28 (ix2 0 k) = (wts m c).W5 k * half := by
  have e : V m c main_v28 = (mulf (m ((c : Thread nD τ).loc main_arg5)) (broadcastInDim S1x128 ![] bcast_S_S1x128
      (constant S_ .f32 0x3F000000#32)) : FVec Ideal S1x128 .f32) := by
    rfl
  rw [e]
  exact halfRow_apply _ k

/-- The score's bias laid out as a matrix of one entry. -/
theorem one_apply (a : FVec Ideal S1 .f32) : broadcastInDim S1x1 ![1] bcast_S1_S1x1_1 a (ix2 0 0) = a (ix1 0) := by
  pointwise!

/-- The score's bias handed to the kernel. -/
theorem v29_apply : V m c main_v29 (ix2 0 0) = (wts m c).b5 := by
  have e : V m c main_v29 = (broadcastInDim S1x1 ![1] bcast_S1_S1x1_1 (m ((c : Thread nD τ).loc main_arg6)) : FVec Ideal S1x1 .f32) := by
    rfl
  rw [e]
  exact one_apply _

end Cert.KernelIdeal.Blk

end
-- ==== Proof.Equation.lean ====
module

public import proofs.«01_k».proof.Proof.Spec

@[expose] public section

/-! The kernel's recurrence is the reference's: the product over 256 columns is the gate row scaled per column, and
the scales are what reading a sigmoid by `tanh` and carrying the doubled hidden row ask for. -/

noncomputable section

namespace Cert.Lstm

open Idealize.ShloMosaic

/-- A column's scale is not negative. -/
theorem cs_nonneg (r : Fin 512) : 0 ≤ cs r := by
  unfold cs; split
  · exact zero_le_one
  · exact half_nonneg

/-- A column's scale is not `⊤`. -/
theorem cs_ne_top (r : Fin 512) : cs r ≠ ⊤ := by
  unfold cs; split
  · exact EReal.coe_ne_top 1
  · exact half_ne_top

/-- A sum over 256 places, cut at 64 and 192. -/
theorem sum_256 (f : Fin 256 → EReal) :
    ∑ k, f k = (∑ k : Fin 64, f ⟨k.val, by omega⟩) + (∑ k : Fin 128, f ⟨64 + k.val, by omega⟩)
      + ∑ k : Fin 64, f ⟨192 + k.val, by omega⟩ := by
  rw [show ∑ k, f k = _ from Fin.sum_univ_add (M := EReal) (a := 192) (b := 64) f]
  rw [show ∑ k : Fin 192, f (Fin.castAdd 64 k) = _ from
    Fin.sum_univ_add (M := EReal) (a := 64) (b := 128) fun k : Fin 192 => f (Fin.castAdd 64 k)]
  rfl

/-- A sum over 128 places, cut in the middle. -/
theorem sum_128 (f : Fin 128 → EReal) :
    ∑ k, f k = (∑ k : Fin 64, f ⟨k.val, by omega⟩) + ∑ k : Fin 64, f ⟨64 + k.val, by omega⟩ := by
  exact Fin.sum_univ_add (M := EReal) (a := 64) (b := 64) f

/-- The kernel's product over 256 columns: the node's features, the hidden row, and the graph's gate row. -/
theorem kgate_eq (wk : Fin 192 → Fin 512 → EReal) (gb : Fin 512 → EReal) (xl : Fin 64 → EReal) (h : Fin 128 → EReal) (r : Fin 512) :
    kgate wk gb xl h r = (∑ k : Fin 64, xl k * wk ⟨k.val, by omega⟩ r) + (∑ k : Fin 128, h k * wk ⟨64 + k.val, by omega⟩ r) + gb r := by
  unfold kgate
  rw [sum_256]
  refine congrArg₂ (· + ·) (congrArg₂ (· + ·) (Finset.sum_congr rfl fun k _ => ?_) (Finset.sum_congr rfl fun k _ => ?_)) ?_
  · have := k.isLt
    simp only [xrow, wcol]
    rw [dif_pos (by omega), dif_pos (by omega)]
  · have := k.isLt
    simp only [xrow, wcol]
    rw [dif_neg (by omega), dif_pos (by omega), dif_pos (by omega)]
    exact congrArg (fun i => h i * _) (Fin.ext (by simp))
  · rw [Finset.sum_eq_single (0 : Fin 64)]
    · simp [xrow, wcol]
    · intro k _ hk
      have : k.val ≠ 0 := fun h => hk (Fin.ext h)
      simp only [xrow, wcol]
      rw [dif_neg (by omega), dif_neg (by omega), if_neg (by omega), zero_mul]
    · intro h; exact absurd (Finset.mem_univ _) h

/-- So the kernel's gate row is the reference's, each column scaled. -/
theorem kgate_scaled (w : Weights) (g l : Fin 64 → EReal) (h h2 : Fin 128 → EReal) (hh : ∀ k, h2 k = h k * 2) (r : Fin 512) :
    kgate (kw w) (kgb w g) l h2 r = gate w (feat g l) h r * cs r := by
  rw [kgate_eq]
  unfold gate kgb
  have e1 : ∀ k : Fin 64, l k * kw w ⟨k.val, by omega⟩ r = l k * w.Wih r ⟨64 + k.val, by omega⟩ * cs r := fun k => by
    have := k.isLt
    simp only [kw]
    rw [dif_pos (by omega), mul_assoc]
  have e2 : ∀ k : Fin 128, h2 k * kw w ⟨64 + k.val, by omega⟩ r = h k * w.Whh r k * cs r := fun k => by
    have := k.isLt
    simp only [kw]
    rw [dif_neg (by omega), hh]
    have : (⟨64 + k.val - 64, by omega⟩ : Fin 128) = k := Fin.ext (by simp)
    rw [this, ← mul_assoc]
    congr 1
    calc h k * 2 * (w.Whh r k * half) = h k * w.Whh r k * (half * 2) := by ac_rfl
      _ = h k * w.Whh r k := by rw [half_mul_two, mul_one]
  have e3 : ∀ j : Fin 64, g j * (w.Wih r ⟨j.val, by omega⟩ * cs r) = g j * w.Wih r ⟨j.val, by omega⟩ * cs r := fun j => (mul_assoc _ _ _).symm
  rw [Finset.sum_congr rfl fun k _ => e1 k, Finset.sum_congr rfl fun k _ => e2 k, Finset.sum_congr rfl fun k _ => e3 k]
  rw [← sum_mul_fin (cs_nonneg r) (cs_ne_top r), ← sum_mul_fin (cs_nonneg r) (cs_ne_top r), ← sum_mul_fin (cs_nonneg r) (cs_ne_top r)]
  rw [← add_mul_fin (cs_nonneg r) (cs_ne_top r), ← add_mul_fin (cs_nonneg r) (cs_ne_top r), ← add_mul_fin (cs_nonneg r) (cs_ne_top r)]
  congr 1
  rw [sum_128 fun k => feat g l k * w.Wih r k]
  have f1 : ∀ k : Fin 64, feat g l ⟨k.val, by omega⟩ = g k := fun k => by
    unfold feat; rw [dif_pos k.isLt]
  have f2 : ∀ k : Fin 64, feat g l ⟨64 + k.val, by omega⟩ = l k := fun k => by
    unfold feat; rw [dif_neg (by simp)]; exact congrArg l (Fin.ext (by simp))
  simp only [f1, f2]
  ac_rfl

/-- Outside the third gate a column's scale is one half. -/
theorem cs_half {r : Fin 512} (h : ¬(256 ≤ r.val ∧ r.val < 384)) : cs r = half := if_neg h
/-- In the third gate it is one. -/
theorem cs_one {r : Fin 512} (h : 256 ≤ r.val ∧ r.val < 384) : cs r = 1 := if_pos h

/-- The kernel's cell entry is the reference's. -/
theorem kcell_eq (g g' : Fin 512 → EReal) (hg : ∀ r, g' r = g r * cs r) (c : Fin 128 → EReal) (k : Fin 128) :
    kcell g' (c k) k = cell g c k := by
  have := k.isLt
  unfold kcell cell
  rw [hg, hg, hg, cs_half (by simp only [quarter]; omega), cs_half (by simp only [quarter]; omega), cs_one (by simp only [quarter]; omega),
    mul_one, sig_eq_tanh, sig_eq_tanh, add_mul_fin half_nonneg half_ne_top]
  congr 1 <;> ac_rfl

/-- The kernel's hidden entry is twice the reference's. -/
theorem khid_eq (g g' : Fin 512 → EReal) (hg : ∀ r, g' r = g r * cs r) (c : Fin 128 → EReal) (k : Fin 128) :
    khid g' (c k) k = hid g c k * 2 := by
  have := k.isLt
  unfold khid hid
  rw [hg, cs_half (by simp only [quarter]; omega), sig_eq_tanh]
  calc (1 + Ideal.tanh (g (quarter 384 (by decide) k) * half)) * Ideal.tanh (c k)
      = (1 + Ideal.tanh (g (quarter 384 (by decide) k) * half)) * Ideal.tanh (c k) * (half * 2) := by rw [half_mul_two, mul_one]
    _ = _ := by ac_rfl

/-- After any number of steps the kernel holds the reference's cell row and twice its hidden row. -/
theorem kst_eq (w : Weights) (g l : ℕ → Fin 64 → EReal) (t : ℕ) :
    (kst (kw w) (fun t => kgb w (g t)) l t).1 = (st w (fun t => feat (g t) (l t)) t).1
      ∧ ∀ k, (kst (kw w) (fun t => kgb w (g t)) l t).2 k = (st w (fun t => feat (g t) (l t)) t).2 k * 2 := by
  induction t with
  | zero => exact ⟨rfl, fun k => (zero_mul _).symm⟩
  | succ t ih =>
    have hg := kgate_scaled w (g t) (l t) (st w (fun t => feat (g t) (l t)) t).2 _ ih.2
    have hc : (kst (kw w) (fun t => kgb w (g t)) l (t + 1)).1 = (st w (fun t => feat (g t) (l t)) (t + 1)).1 := by
      funext k
      show kcell _ ((kst (kw w) (fun t => kgb w (g t)) l t).1 k) k = cell _ _ k
      rw [ih.1]
      exact kcell_eq _ _ hg _ k
    refine ⟨hc, fun k => ?_⟩
    show khid _ ((kst (kw w) (fun t => kgb w (g t)) l (t + 1)).1 k) k = hid _ ((st w (fun t => feat (g t) (l t)) (t + 1)).1) k * 2
    rw [hc]
    exact khid_eq _ _ hg _ k

/-- The kernel's score, its weights halved, of the doubled hidden row is the reference's. -/
theorem kscore_eq (w : Weights) (h h2 : Fin 128 → EReal) (hh : ∀ k, h2 k = h k * 2) :
    kscore (fun k => w.W5 k * half) w.b5 h2 = score w h := by
  unfold kscore score
  congr 1
  refine Finset.sum_congr rfl fun k _ => ?_
  rw [hh, max_mul_two]
  calc w.W5 k * half * (max (h k) 0 * 2) = max (h k) 0 * w.W5 k * (half * 2) := by ac_rfl
    _ = _ := by rw [half_mul_two, mul_one]

end Cert.Lstm

end
-- ==== Proof.Array.lean ====
module

public import proofs.«01_k».proof.Proof.Operands
public import proofs.«01_k».proof.Proof.Equation

@[expose] public section

set_option maxRecDepth 16384

/-! What the result array holds: the scratch arrays' contents from point to point, each point's block as entries of the
function both programs compute, and the blocks laid into the array. -/

noncomputable section

namespace Cert.KernelIdeal.Blk

open Idealize.ShloMosaic Idealize.ShloMosaic.TcCoe Cert.KernelIdeal Cert.KernelIdeal.Gen Cert.Lstm

variable (m : (ℓ : Loc nD τ sig) → Buf (Elt Ideal) ℓ) (c : Dev nD)

/-- The scaled weights, read from the block a point is given. -/
theorem iblk8_fun (t : Fin cfg0.N) : (fun (k : Fin 192) (r : Fin 512) => (iblk m c 8 t : Vec Ideal S192x512 .f32) (ix2 k r)) = kw (wts m c) := by
  funext k r
  rw [iblk8]
  exact v15_apply m c k r

/-- After every point the scratch arrays hold what the next point needs of them. -/
theorem scratch_inv (n : ℕ) (hn : n < cfg0.N) :
    XTail (outsAt0 m c n hn).2.1 ∧ XTail (outsAt0 m c n hn).2.2.1
      ∧ WRest (kw (wts m c)) (outsAt0 m c n hn).2.2.2.1 ∧ WRest (kw (wts m c)) (outsAt0 m c n hn).2.2.2.2 := by
  induction n with
  | zero =>
    have e := outsAt0_A m c ⟨0, hn⟩ rfl
    rw [← iblk8_fun m c ⟨0, hn⟩]
    rw [show outsAt0 m c 0 hn = _ from e]
    dsimp only
    exact ⟨soutA_0 _ _ _ _ _ _ _ _ _ _ _ _ _ _ _ _ _ _ _ _ _ _ _ _ _ _ _ _ _ _, soutA_1 _ _ _ _ _ _ _ _ _ _ _ _ _ _ _ _ _ _ _ _ _ _ _ _ _ _ _ _ _ _, soutA_2 _ _ _ _ _ _ _ _ _ _ _ _ _ _ _ _ _ _ _ _ _ _ _ _ _ _ _ _ _ _, soutA_3 _ _ _ _ _ _ _ _ _ _ _ _ _ _ _ _ _ _ _ _ _ _ _ _ _ _ _ _ _ _⟩
  | succ n ih =>
    have hN : n + 1 < 8 := lt_of_lt_of_eq hn N_0
    have h0 : ¬ (⟨n + 1, hn⟩ : Fin cfg0.N).val % 8 = 0 := by
      show ¬ (n + 1) % 8 = 0; omega
    have e := outsAt0_B m c ⟨n + 1, hn⟩ h0
    obtain ⟨i0, i1, i2, i3⟩ := ih (Nat.lt_of_succ_lt hn)
    rw [show outsAt0 m c (n + 1) hn = _ from e]
    dsimp only
    exact ⟨soutB_0 _ _ _ _ _ _ _ _ _ _ _ _ _ _ _ _ _ _ _ _ _ _ _ _ _ _ _ _ _ _ _ _ _ _ i0, soutB_1 _ _ _ _ _ _ _ _ _ _ _ _ _ _ _ _ _ _ _ _ _ _ _ _ _ _ _ _ _ _ _ _ _ _ i1, soutB_2 _ _ _ _ _ _ _ _ _ _ _ _ _ _ _ _ _ _ _ _ _ _ _ _ _ _ _ _ _ _ _ _ _ _ i2, soutB_3 _ _ _ _ _ _ _ _ _ _ _ _ _ _ _ _ _ _ _ _ _ _ _ _ _ _ _ _ _ _ _ _ _ _ i3⟩

/-- A point's block at a node of either graph, by the blocks the point is given. -/
theorem outs_apply (t : Fin cfg0.N) (g : Fin 2) (s : Fin 4) (n : Fin 2048) :
    (outsAt0 m c t.val t.isLt).1 (ix2 s (at2 g n))
      = blkVal (iblk m c 0 t) (iblk m c 1 t) (iblk m c 2 t) (iblk m c 3 t) (iblk m c 4 t) (iblk m c 5 t) (iblk m c 6 t)
          (iblk m c 7 t) (iblk m c 9 t) (iblk m c 10 t) (kw (wts m c)) g s n := by
  by_cases h0 : t.val % 8 = 0
  · rw [outsAt0_A m c t h0, ← iblk8_fun m c t]
    dsimp only
    fin_vals g with hg
    · obtain rfl : g = 0 := Fin.ext hg
      exact outA_first ..
    · obtain rfl : g = 1 := Fin.ext hg
      exact outA_second ..
  · rw [outsAt0_B m c t h0]
    dsimp only
    obtain ⟨i0, i1, i2, i3⟩ := scratch_inv m c (t.val - 1) (by omega)
    fin_vals g with hg
    · obtain rfl : g = 0 := Fin.ext hg
      exact outB_first (h0 := i0) (h2 := i2) ..
    · obtain rfl : g = 1 := Fin.ext hg
      exact outB_second (h1 := i1) (h3 := i3) ..

section Equal

variable (x0 : Vec Ideal S4x4096x67 .f32) (x1 : Vec Ideal S1x2048 .f32) (x2 : Vec Ideal S64x64 .f32) (x3 : Vec Ideal S1x64 .f32)
  (x4 : Vec Ideal S64x64 .f32) (x5 : Vec Ideal S1x64 .f32) (x6 : Vec Ideal S1x128 .f32) (x7 : Vec Ideal S1x1 .f32)
  (x9 : Vec Ideal S64x512 .f32) (x10 : Vec Ideal S1x512 .f32) (w : Weights) (a0 : Vec Ideal S4x32768x67 .f32) (g : Fin 2) (b : Fin 16)

/-- The graph's gate rows, from what the blocks hold. -/
theorem gbN_eq (hx : ∀ u n k, x0 (ix3 u (at2 g n) k) = a0 (ix3 u (nodeAt b n) k)) (h1 : ∀ n, x1 (ix2 0 n) = ((1 / 2048 : ℝ) : EReal))
    (h2 : ∀ i j, x2 (ix2 i j) = w.W6 j i) (h3 : ∀ j, x3 (ix2 0 j) = w.b6 j)
    (h9 : ∀ (j : Fin 64) r, x9 (ix2 j r) = w.Wih r ⟨j.val, by omega⟩ * cs r) (h10 : ∀ r, x10 (ix2 0 r) = (w.bih r + w.bhh r) * cs r) :
    gbN x0 x1 x2 x3 x9 x10 g = fun u => kgb w (globRow w (meanOf a0 b u)) := by
  funext u r
  have hm (i : Fin 64) : (∑ n : Fin 2048, x1 (ix2 0 n) * x0 (ix3 (stepIx u) (at2 g n) ⟨i.val, by omega⟩)) = meanOf a0 b u i := by
    unfold meanOf
    rw [sum_mul_fin (EReal.coe_nonneg.mpr (by norm_num)) (EReal.coe_ne_top _)]
    refine Finset.sum_congr rfl fun n _ => ?_
    rw [hx, h1, mul_comm]
  unfold gbN gbA kgb globRow
  refine congrArg₂ (· + ·) (Finset.sum_congr rfl fun j _ => congrArg₂ (· * ·) (congrArg (max · 0) (congrArg₂ (· + ·)
    (Finset.sum_congr rfl fun i _ => congrArg₂ (· * ·) (hm i) (h2 i j)) (h3 j))) (h9 j r)) (h10 r)

/-- The node's own features, from what the blocks hold. -/
theorem xlA_eq (hx : ∀ u n k, x0 (ix3 u (at2 g n) k) = a0 (ix3 u (nodeAt b n) k))
    (h4 : ∀ i j, x4 (ix2 i j) = w.W7 j i) (h5 : ∀ j, x5 (ix2 0 j) = w.b7 j) (n : Fin 2048) (u : ℕ) :
    xlA x0 x4 x5 g (rowOf n u) = locRow w (ownOf a0 b n u) := by
  funext k
  have e1 : (⟨(rowOf n u).val / 2048, by omega⟩ : Fin 4) = stepIx u := Fin.ext (by
    show (2048 * u + n.val) % 8192 / 2048 = u % 4
    omega)
  have e2 : (⟨(rowOf n u).val % 2048, by omega⟩ : Fin 2048) = n := Fin.ext (by
    show (2048 * u + n.val) % 8192 % 2048 = n.val
    omega)
  unfold xlA locRow ownOf
  rw [e1, e2]
  exact congrArg (max · 0) (congrArg₂ (· + ·) (Finset.sum_congr rfl fun j _ => congrArg₂ (· * ·) (hx _ _ _) (h4 j k)) (h5 k))

/-- A point's block at a node, from what the blocks it is given hold. -/
theorem blkVal_of (hx : ∀ u n k, x0 (ix3 u (at2 g n) k) = a0 (ix3 u (nodeAt b n) k)) (h1 : ∀ n, x1 (ix2 0 n) = ((1 / 2048 : ℝ) : EReal))
    (h2 : ∀ i j, x2 (ix2 i j) = w.W6 j i) (h3 : ∀ j, x3 (ix2 0 j) = w.b6 j)
    (h4 : ∀ i j, x4 (ix2 i j) = w.W7 j i) (h5 : ∀ j, x5 (ix2 0 j) = w.b7 j)
    (h6 : ∀ k, x6 (ix2 0 k) = w.W5 k * half) (h7 : x7 (ix2 0 0) = w.b5)
    (h9 : ∀ (j : Fin 64) r, x9 (ix2 j r) = w.Wih r ⟨j.val, by omega⟩ * cs r) (h10 : ∀ r, x10 (ix2 0 r) = (w.bih r + w.bhh r) * cs r)
    (s : Fin 4) (n : Fin 2048) :
    blkVal x0 x1 x2 x3 x4 x5 x6 x7 x9 x10 (kw w) g s n = resultAt w a0 s b n := by
  unfold blkVal resultAt stOf
  rw [gbN_eq x0 x1 x2 x3 x9 x10 w a0 g b hx h1 h2 h3 h9 h10, funext (xlA_eq x0 x4 x5 w a0 g b hx h4 h5 n), funext h6, h7, hx]
  exact congrArg (masked _) (kscore_eq _ _ _ (kst_eq w _ _ _).2)

end Equal

/-- The features' block at a node of either graph. -/
theorem x0_apply (t : Fin cfg0.N) (g : Fin 2) (b : Fin 16) (hb : b.val = 2 * t.val + g.val) (u : Fin 4) (n : Fin 2048) (k : Fin 67) :
    iblk m c 0 t (ix3 u (at2 g n) k) = m ((c : Thread nD τ).loc main_arg0) (ix3 u (nodeAt b n) k) := by
  have hn : nodeAt b n = ⟨4096 * t.val + (at2 g n).val, by
      show 4096 * t.val + (2048 * g.val + n.val) < 32768; omega⟩ := Fin.ext (by
    show 2048 * b.val + n.val = 4096 * t.val + (2048 * g.val + n.val); omega)
  rw [hn]
  exact iblk0 m c t u (at2 g n) k _

/-- A point's block at a node is the function both programs compute, at that node of that graph. -/
theorem blkVal_eq (t : Fin cfg0.N) (g : Fin 2) (s : Fin 4) (n : Fin 2048) (b : Fin 16) (hb : b.val = 2 * t.val + g.val) :
    blkVal (iblk m c 0 t) (iblk m c 1 t) (iblk m c 2 t) (iblk m c 3 t) (iblk m c 4 t) (iblk m c 5 t) (iblk m c 6 t)
        (iblk m c 7 t) (iblk m c 9 t) (iblk m c 10 t) (kw (wts m c)) g s n
      = resultAt (wts m c) (m ((c : Thread nD τ).loc main_arg0)) s b n := by
  rw [iblk1, iblk2, iblk3, iblk4, iblk5, iblk6, iblk7, iblk9, iblk10]
  exact blkVal_of _ _ _ _ _ _ _ _ _ _ (wts m c) _ g b (x0_apply m c t g b hb) (v24_apply m c) (v0_apply m c) (v25_apply m c)
    (v1_apply m c) (v26_apply m c) (v28_apply m c) (v29_apply m c) (v19_apply m c) (v23_apply m c) s n

/-- The result array, node by node. -/
theorem G11_apply (s : Fin 4) (b : Fin 16) (n : Fin 2048) :
    Value.G11 m c (ix2 s (nodeAt b n)) = resultAt (wts m c) (m ((c : Thread nD τ).loc main_arg0)) s b n := by
  have hp : Value.pt11Of (ix2 s (nodeAt b n)) = b.val / 2 := by
    show 8 * (s.val / 4 - 0) + 1 * ((2048 * b.val + n.val) / 4096 - 0) = b.val / 2
    omega
  have hN : Value.pt11Of (ix2 s (nodeAt b n)) < cfg0.N := by
    rw [hp]; exact lt_of_lt_of_eq (by omega) N_0.symm
  have hl : Value.loc11Of (ix2 s (nodeAt b n)) = ix2 s (at2 ⟨b.val % 2, by omega⟩ n) := by
    funext a
    fin_cases a
    · exact Fin.ext (Nat.mod_eq_of_lt s.isLt)
    · refine Fin.ext ?_
      show (2048 * b.val + n.val) % 4096 = 2048 * (b.val % 2) + n.val
      omega
  unfold Value.G11
  rw [dif_pos hN, ← Value.outsAt0_sweep m c _ hN, hl]
  refine (outs_apply m c ⟨_, hN⟩ _ s n).trans (blkVal_eq m c ⟨_, hN⟩ _ s n b ?_)
  show b.val = 2 * Value.pt11Of (ix2 s (nodeAt b n)) + b.val % 2
  rw [hp]
  omega

end Cert.KernelIdeal.Blk

end
-- ==== Proof.Steps.lean ====
module

public import proofs.«01_k».proof.Proof.Target
public import proofs.«01_k».proof.Proof.Gen.ReferenceIdeal.Run
public import Idealize.ShloMosaic.Lib.Pointwise

@[expose] public section

set_option maxRecDepth 16384

/-! One step of the reference, at a node: the gate row, the cell row and the hidden row as the recurrence `st` has them. -/

noncomputable section

namespace Cert.ReferenceIdeal.Blk

open Idealize.ShloMosaic Idealize.ShloMosaic.TcCoe Cert.ReferenceIdeal Cert.ReferenceIdeal.Gen Cert.Lstm

/-- The gates of all nodes, from their features and hidden rows. -/
def gatesA (x h : FVec Ideal S32768x128 .f32) (a7 a8 : FVec Ideal S512x128 .f32) (a9 a10 : FVec Ideal S512 .f32) : FVec Ideal S32768x512 .f32 :=
  addf (addf (addf (Host.dotGeneral dot_S32768x128_S128x512_S32768x512_1_0_0_1_n_n none x (transpose S128x512 [1, 0] a7 transposes_S512x128_S128x512_1_0))
      (broadcastInDim S32768x512 ![0, 1] bcast_S1x512_S32768x512_0_1 (broadcastInDim S1x512 ![1] bcast_S512_S1x512_1 a9)))
    (Host.dotGeneral dot_S32768x128_S128x512_S32768x512_1_0_0_1_n_n none h (transpose S128x512 [1, 0] a8 transposes_S512x128_S128x512_1_0)))
    (broadcastInDim S32768x512 ![0, 1] bcast_S1x512_S32768x512_0_1 (broadcastInDim S1x512 ![1] bcast_S512_S1x512_1 a10))

/-- The sigmoid of a quarter of the gates, of all nodes. -/
def sigA (x : FVec Ideal S32768x128 .f32) : FVec Ideal S32768x128 .f32 :=
  Host.divf (broadcastInDim S32768x128 ![] bcast_S_S32768x128 (constant S_ .f32 0x3F800000#32))
    (addf (broadcastInDim S32768x128 ![] bcast_S_S32768x128 (constant S_ .f32 0x3F800000#32)) (Host.exp (Host.negf x)))

/-- The cell rows of all nodes. -/
def cellA (g : FVec Ideal S32768x512 .f32) (c : FVec Ideal S32768x128 .f32) : FVec Ideal S32768x128 .f32 :=
  addf (mulf (sigA (extractStridedSlice S32768x128 ![0, 128] g slices_S32768x512_S32768x128_0_128)) c)
    (mulf (sigA (extractStridedSlice S32768x128 ![0, 0] g slices_S32768x512_S32768x128_0_0))
      (Host.tanh (extractStridedSlice S32768x128 ![0, 256] g slices_S32768x512_S32768x128_0_256)))

/-- The hidden rows of all nodes. -/
def hidA (g : FVec Ideal S32768x512 .f32) (c : FVec Ideal S32768x128 .f32) : FVec Ideal S32768x128 .f32 :=
  mulf (sigA (extractStridedSlice S32768x128 ![0, 384] g slices_S32768x512_S32768x128_0_384)) (Host.tanh c)

/-- The rows the recurrence starts from. -/
def zeroA : FVec Ideal S32768x128 .f32 := broadcastInDim S32768x128 ![] bcast_S_S32768x128 (constant S_ .f32 0x00000000#32)

/-- The rows before the first step are zero. -/
theorem zeroA_apply (p : Fin 32768) (k : Fin 128) : zeroA (ix2 p k) = 0 := by
  unfold zeroA
  pointwise!

/-- The logistic function at an entry. -/
theorem sigA_apply (x : FVec Ideal S32768x128 .f32) (p : Fin 32768) (k : Fin 128) : sigA x (ix2 p k) = Cert.Lstm.sig (x (ix2 p k)) := by
  unfold sigA Cert.Lstm.sig
  pointwise!

/-- The gates of a node, from its features and its hidden row. -/
theorem gatesA_apply (x h : FVec Ideal S32768x128 .f32) (a1 : FVec Ideal S64x64 .f32) (a2 : FVec Ideal S64 .f32) (a3 : FVec Ideal S64x64 .f32)
    (a4 : FVec Ideal S64 .f32) (a5 : FVec Ideal S1x128 .f32) (a6 : FVec Ideal S1 .f32) (a7 a8 : FVec Ideal S512x128 .f32)
    (a9 a10 : FVec Ideal S512 .f32) (p : Fin 32768) (r : Fin 512) :
    gatesA x h a7 a8 a9 a10 (ix2 p r)
      = gate (weightsOf a1 a2 a3 a4 a5 a6 a7 a8 a9 a10) (fun k => x (ix2 p k)) (fun k => h (ix2 p k)) r := by
  unfold gatesA gate weightsOf
  pointwise!

/-- The new cell of a node, from its gates and its cell. -/
theorem cellA_apply (g : FVec Ideal S32768x512 .f32) (c : FVec Ideal S32768x128 .f32) (p : Fin 32768) (k : Fin 128) :
    cellA g c (ix2 p k) = cell (fun r => g (ix2 p r)) (fun k => c (ix2 p k)) k := by
  unfold cellA cell quarter
  pointwise! [sigA, Cert.Lstm.sig]

/-- The new hidden row of a node, from its gates and its new cell. -/
theorem hidA_apply (g : FVec Ideal S32768x512 .f32) (c : FVec Ideal S32768x128 .f32) (p : Fin 32768) (k : Fin 128) :
    hidA g c (ix2 p k) = hid (fun r => g (ix2 p r)) (fun k => c (ix2 p k)) k := by
  unfold hidA hid quarter
  pointwise! [sigA, Cert.Lstm.sig]

end Cert.ReferenceIdeal.Blk

end
-- ==== Proof.Scatter.lean ====
module

public import proofs.«01_k».proof.Proof.Target
public import proofs.«01_k».proof.Proof.Gen.ReferenceIdeal.Run
public import Idealize.ShloMosaic.Lib.Routing.OpsPair
public import Idealize.ShloMosaic.Lib.Pointwise

@[expose] public section

set_option maxRecDepth 16384

/-! The reference's two accumulating scatters, where every node's graph number is the node's place over 2048: the sums
run over the graph's own 2048 nodes, and the counts are 2048. -/

noncomputable section

namespace Cert.ReferenceIdeal.Blk

open Idealize.ShloMosaic Idealize.ShloMosaic.TcCoe Cert.ReferenceIdeal Cert.ReferenceIdeal.Gen Cert.Lstm

/-- The graph numbers are the nodes' places over 2048. -/
def ByGraph (ids : IVec S32768x1 32) : Prop := ∀ n : Fin 32768, (ids (ix2 n 0)).toInt = ((n.val / 2048 : ℕ) : ℤ)

variable (ids : IVec S32768x1 32)

/-- The graph numbers move no update of the sums along the steps. -/
theorem sums_start0 (s : Fin 4) (n : Fin 32768) (k : Fin 64) :
    scatter_S4x16x64_S32768x1_S4x32768x64_02_1_1_1.start (ix3 s n k) ids 0 = 0 := by
  unfold ScatterDims.start
  rw [dif_neg (by decide)]

/-- They move a node's updates along the graphs to the node's graph number. -/
theorem sums_start1 (s : Fin 4) (n : Fin 32768) (k : Fin 64) :
    scatter_S4x16x64_S32768x1_S4x32768x64_02_1_1_1.start (ix3 s n k) ids 1 = (ids (ix2 n 0)).toInt := by
  unfold ScatterDims.start
  rw [dif_pos (by decide)]
  refine congrArg (fun j => (ids j).toInt) ?_
  funext a
  fin_cases a <;> rfl

/-- They move no update along the features. -/
theorem sums_start2 (s : Fin 4) (n : Fin 32768) (k : Fin 64) :
    scatter_S4x16x64_S32768x1_S4x32768x64_02_1_1_1.start (ix3 s n k) ids 2 = 0 := by
  unfold ScatterDims.start
  rw [dif_neg (by decide)]

/-- An update's own offset: its step, nothing along the graphs, its feature. -/
theorem sums_window (s : Fin 4) (n : Fin 32768) (k : Fin 64) :
    scatter_S4x16x64_S32768x1_S4x32768x64_02_1_1_1.window (ix3 s n k) 0 = s.val
      ∧ scatter_S4x16x64_S32768x1_S4x32768x64_02_1_1_1.window (ix3 s n k) 1 = 0
      ∧ scatter_S4x16x64_S32768x1_S4x32768x64_02_1_1_1.window (ix3 s n k) 2 = k.val :=
  ⟨rfl, rfl, rfl⟩

/-- Where an update of the sums lands. -/
theorem sums_lands (h : ByGraph ids) (s s' : Fin 4) (n : Fin 32768) (b : Fin 16) (k k' : Fin 64) :
    scatter_S4x16x64_S32768x1_S4x32768x64_02_1_1_1.resultIdx? (ix3 s n k) ids = some (ix3 s' b k')
      ↔ s = s' ∧ n.val / 2048 = b.val ∧ k = k' := by
  obtain ⟨w0, w1, w2⟩ := sums_window s n k
  rw [Routing.resultIdx?_eq_some]
  constructor
  · intro q
    have q0 := q 0
    have q1 := q 1
    have q2 := q 2
    rw [sums_start0, w0] at q0
    rw [sums_start1, h, w1] at q1
    rw [sums_start2, w2] at q2
    change (0 : ℤ) + (s.val : ℤ) = (s'.val : ℤ) at q0
    change ((n.val / 2048 : ℕ) : ℤ) + ((0 : ℕ) : ℤ) = (b.val : ℤ) at q1
    change (0 : ℤ) + (k.val : ℤ) = (k'.val : ℤ) at q2
    exact ⟨Fin.ext (by omega), by omega, Fin.ext (by omega)⟩
  · rintro ⟨rfl, hn, rfl⟩ a
    fin_cases a
    · refine (congrArg₂ (fun (x : ℤ) (y : ℕ) => x + (y : ℤ)) (sums_start0 ids s n k) w0).trans ?_
      show (0 : ℤ) + (s.val : ℤ) = (s.val : ℤ)
      omega
    · refine (congrArg₂ (fun (x : ℤ) (y : ℕ) => x + (y : ℤ)) ((sums_start1 ids s n k).trans (h n)) w1).trans ?_
      show ((n.val / 2048 : ℕ) : ℤ) + ((0 : ℕ) : ℤ) = (b.val : ℤ)
      omega
    · refine (congrArg₂ (fun (x : ℤ) (y : ℕ) => x + (y : ℤ)) (sums_start2 ids s n k) w2).trans ?_
      show (0 : ℤ) + (k.val : ℤ) = (k.val : ℤ)
      omega

/-- The sums: over the graph's own nodes. -/
theorem sums_apply (h : ByGraph ids) (x : FVec Ideal S4x16x64 .f32) (u : FVec Ideal S4x32768x64 .f32) (s : Fin 4) (b : Fin 16) (k : Fin 64) :
    Host.scatterAdd scatter_S4x16x64_S32768x1_S4x32768x64_02_1_1_1 x ids u (ix3 s b k)
      = x (ix3 s b k) + ∑ n : Fin 2048, u (ix3 s (nodeAt b n) k) := by
  show x (ix3 s b k) + ∑ j ∈ Finset.univ.filter (fun j =>
    scatter_S4x16x64_S32768x1_S4x32768x64_02_1_1_1.resultIdx? j ids = some (ix3 s b k)), u j = _
  refine congrArg _ (Finset.sum_bij (fun n _ => ix3 s (nodeAt b n) k) ?_ ?_ ?_ ?_).symm
  · intro n _
    rw [Finset.mem_filter]
    refine ⟨Finset.mem_univ _, (sums_lands ids h _ _ _ _ _ _).2 ⟨rfl, ?_, rfl⟩⟩
    show (2048 * b.val + n.val) / 2048 = b.val
    omega
  · intro n _ n' _ e
    have e1 := congrArg Fin.val (congrFun e 1)
    change 2048 * b.val + n.val = 2048 * b.val + n'.val at e1
    exact Fin.ext (by omega)
  · intro j hj
    idx_vars j
    obtain ⟨rfl, hn, rfl⟩ := (sums_lands ids h _ _ _ _ _ _).1 (Finset.mem_filter.1 hj).2
    refine ⟨⟨j1.val % 2048, Nat.mod_lt _ (by decide)⟩, Finset.mem_univ _, ?_⟩
    have : nodeAt b ⟨j1.val % 2048, Nat.mod_lt _ (by decide)⟩ = j1 := Fin.ext (by
      show 2048 * b.val + j1.val % 2048 = j1.val
      omega)
    rw [this]
  · intro n _
    rfl

/-- The graph numbers move a node's count to the node's graph number. -/
theorem counts_start (n : Fin 32768) : scatter_S16_S32768x1_S32768_n_0_0_1.start (ix1 n) ids 0 = (ids (ix2 n 0)).toInt := by
  unfold ScatterDims.start
  rw [dif_pos (by decide)]
  refine congrArg (fun j => (ids j).toInt) ?_
  funext a
  fin_cases a <;> rfl

/-- Where an update of the counts lands. -/
theorem counts_lands (h : ByGraph ids) (n : Fin 32768) (b : Fin 16) :
    scatter_S16_S32768x1_S32768_n_0_0_1.resultIdx? (ix1 n) ids = some (ix1 b) ↔ n.val / 2048 = b.val := by
  refine (Routing.resultIdx?_ix1 (N := 16) scatter_S16_S32768x1_S32768_n_0_0_1 (ix1 n) ids b).trans ?_
  rw [show scatter_S16_S32768x1_S32768_n_0_0_1.window (ix1 n) 0 = 0 from rfl, counts_start, h]
  omega

/-- The counts: 2048 ones each. -/
theorem counts_apply (h : ByGraph ids) (x : FVec Ideal S16 .f32) (u : FVec Ideal S32768 .f32) (b : Fin 16) :
    Host.scatterAdd scatter_S16_S32768x1_S32768_n_0_0_1 x ids u (ix1 b) = x (ix1 b) + ∑ n : Fin 2048, u (ix1 (nodeAt b n)) := by
  show x (ix1 b) + ∑ j ∈ Finset.univ.filter (fun j =>
    scatter_S16_S32768x1_S32768_n_0_0_1.resultIdx? j ids = some (ix1 b)), u j = _
  refine congrArg _ (Finset.sum_bij (fun n _ => ix1 (nodeAt b n)) ?_ ?_ ?_ ?_).symm
  · intro n _
    rw [Finset.mem_filter]
    refine ⟨Finset.mem_univ _, (counts_lands ids h _ _).2 ?_⟩
    show (2048 * b.val + n.val) / 2048 = b.val
    omega
  · intro n _ n' _ e
    have e1 := congrArg Fin.val (congrFun e 0)
    change 2048 * b.val + n.val = 2048 * b.val + n'.val at e1
    exact Fin.ext (by omega)
  · intro j hj
    idx_vars j
    have hn := (counts_lands ids h _ _).1 (Finset.mem_filter.1 hj).2
    refine ⟨⟨j0.val % 2048, Nat.mod_lt _ (by decide)⟩, Finset.mem_univ _, ?_⟩
    have : nodeAt b ⟨j0.val % 2048, Nat.mod_lt _ (by decide)⟩ = j0 := Fin.ext (by
      show 2048 * b.val + j0.val % 2048 = j0.val
      omega)
    rw [this]
  · intro n _
    rfl

end Cert.ReferenceIdeal.Blk

end
-- ==== Proof.Features.lean ====
module

public import proofs.«01_k».proof.Proof.Scatter
public import Idealize.ShloMosaic.Lib.Pipeline.Value

@[expose] public section

set_option maxRecDepth 16384

/-! The reference's features: each graph's mean row through the graph layer, spread over the graph's nodes, and each node's own
row through the node layer. -/

noncomputable section

namespace Cert.ReferenceIdeal.Blk

open Idealize.ShloMosaic Idealize.ShloMosaic.TcCoe Cert.ReferenceIdeal Cert.ReferenceIdeal.Gen Cert.Lstm

/-- The first 64 entries of every node's row. -/
def muA (a0 : FVec Ideal S4x32768x67 .f32) : FVec Ideal S4x32768x64 .f32 :=
  extractStridedSlice S4x32768x64 ![0, 0, 0] a0 slices_S4x32768x67_S4x32768x64_0_0_0

/-- The node features are the first 64 columns of the first argument. -/
theorem muA_apply (a0 : FVec Ideal S4x32768x67 .f32) (s : Fin 4) (p : Fin 32768) (k : Fin 64) :
    muA a0 (ix3 s p k) = a0 (ix3 s p ⟨k.val, by omega⟩) := by
  unfold muA
  pointwise!

/-- The graphs' mean rows, from the graph numbers. -/
def meanA (ids : IVec S32768x1 32) (a0 : FVec Ideal S4x32768x67 .f32) : FVec Ideal S4x16x64 .f32 :=
  Host.divf (Host.scatterAdd scatter_S4x16x64_S32768x1_S4x32768x64_02_1_1_1 (broadcastInDim S4x16x64 ![1, 2] bcast_S16x64_S4x16x64_1_2
      (broadcastInDim S16x64 ![] bcast_S_S16x64 (constant S_ .f32 0x00000000#32))) ids (muA a0))
    (broadcastInDim S4x16x64 ![0, 1, 2] bcast_S1x16x1_S4x16x64_0_1_2 (broadcastInDim S1x16x1 ![1] bcast_S16_S1x16x1_1
      (Host.scatterAdd scatter_S16_S32768x1_S32768_n_0_0_1 (broadcastInDim S16 ![] bcast_S_S16 (constant S_ .f32 0x00000000#32)) ids
        (broadcastInDim S32768 ![] bcast_S_S32768 (constant S_ .f32 0x3F800000#32)))))

/-- The array the segment sums start from is zero. -/
theorem zero4x16x64 (s : Fin 4) (b : Fin 16) (k : Fin 64) :
    broadcastInDim S4x16x64 ![1, 2] bcast_S16x64_S4x16x64_1_2 (broadcastInDim S16x64 ![] bcast_S_S16x64
      (constant (F := Ideal) S_ .f32 0x00000000#32)) (ix3 s b k) = (0 : EReal) := by
  pointwise!

/-- The array the counts start from is zero. -/
theorem zero16 (b : Fin 16) : broadcastInDim S16 ![] bcast_S_S16 (constant (F := Ideal) S_ .f32 0x00000000#32) (ix1 b) = (0 : EReal) := by
  pointwise!

/-- Each node counts one. -/
theorem one32768 (p : Fin 32768) :
    broadcastInDim S32768 ![] bcast_S_S32768 (constant (F := Ideal) S_ .f32 0x3F800000#32) (ix1 p) = (1 : EReal) := by
  pointwise!

/-- The quotient of the sums by the counts, at an entry. -/
theorem quotient_apply (x : FVec Ideal S4x16x64 .f32) (y : FVec Ideal S16 .f32) (s : Fin 4) (b : Fin 16) (k : Fin 64) :
    Host.divf x (broadcastInDim S4x16x64 ![0, 1, 2] bcast_S1x16x1_S4x16x64_0_1_2 (broadcastInDim S1x16x1 ![1] bcast_S16_S1x16x1_1 y)) (ix3 s b k)
      = Ideal.div (x (ix3 s b k)) (y (ix1 b)) := by
  pointwise!

/-- Dividing by 2048 ones is multiplying by `1 / 2048`. -/
theorem div_count (x : EReal) : Ideal.div (0 + x) (0 + ∑ _n : Fin 2048, (1 : EReal)) = x * ((1 / 2048 : ℝ) : EReal) := by
  have e : (0 : EReal) + ∑ _n : Fin 2048, (1 : EReal) = ((2048 : ℝ) : EReal) := by
    rw [zero_add, Finset.sum_const, Finset.card_univ, Fintype.card_fin, EReal.nsmul_eq_mul, mul_one]
    rfl
  rw [e, zero_add]
  unfold Ideal.div
  rw [if_neg (by
    rw [EReal.coe_eq_zero]; norm_num), ← EReal.coe_inv]
  norm_num

/-- The mean rows are the kernel's. -/
theorem meanA_apply (ids : IVec S32768x1 32) (h : ByGraph ids) (a0 : FVec Ideal S4x32768x67 .f32) (s : Fin 4) (b : Fin 16) (k : Fin 64) :
    meanA ids a0 (ix3 s b k) = meanOf a0 b s.val k := by
  unfold meanA
  refine (quotient_apply _ _ s b k).trans ?_
  rw [sums_apply ids h, counts_apply ids h, zero4x16x64, zero16, Finset.sum_congr rfl fun n _ => one32768 (nodeAt b n), div_count]
  unfold meanOf
  have e : stepIx s.val = s := Fin.ext (Nat.mod_eq_of_lt s.isLt)
  rw [e, Finset.sum_congr rfl fun n _ => muA_apply a0 s (nodeAt b n) k]

/-- A row per graph, given to each of its nodes. -/
def spreadA (M : FVec Ideal S4x16x64 .f32) : FVec Ideal S4x32768x64 .f32 :=
  shapeCast _ (broadcastInDim S4x16x2048x64 ![0, 1, 3] bcast_S4x16x64_S4x16x2048x64_0_1_3 M) shapeCasts_S4x16x2048x64_S4x32768x64

/-- Spread over the nodes, each node of graph `b` has graph `b`'s row. -/
theorem spreadA_apply (M : FVec Ideal S4x16x64 .f32) (s : Fin 4) (b : Fin 16) (n : Fin 2048) (k : Fin 64) :
    spreadA M (ix3 s (nodeAt b n) k) = M (ix3 s b k) := by
  unfold spreadA nodeAt
  pointwise!

/-- A layer of all nodes. -/
def layerA (x : FVec Ideal S4x32768x64 .f32) (W : FVec Ideal S64x64 .f32) (v : FVec Ideal S64 .f32) : FVec Ideal S4x32768x64 .f32 :=
  addf (Host.dotGeneral dot_S4x32768x64_S64x64_S4x32768x64_2_0_01_1_n_n none x (transpose S64x64 [1, 0] W transposes_S64x64_S64x64_1_0))
    (broadcastInDim S4x32768x64 ![0, 1, 2] bcast_S1x1x64_S4x32768x64_0_1_2 (broadcastInDim S1x1x64 ![2] bcast_S64_S1x1x64_2 v))

/-- A linear layer at an entry: a row times a weight row, plus the bias. -/
theorem layerA_apply (x : FVec Ideal S4x32768x64 .f32) (W : FVec Ideal S64x64 .f32) (v : FVec Ideal S64 .f32) (s : Fin 4) (p : Fin 32768) (k : Fin 64) :
    layerA x W v (ix3 s p k) = ∑ j : Fin 64, x (ix3 s p j) * W (ix2 k j) + v (ix1 k) := by
  unfold layerA
  pointwise!

/-- The features of all nodes. -/
def featA (x y : FVec Ideal S4x32768x64 .f32) : FVec Ideal S4x32768x128 .f32 :=
  maximumf (concatenate S4x32768x128 2 [⟨S4x32768x64, x⟩, ⟨S4x32768x64, y⟩] concatenates_S4x32768x64_S4x32768x64_S4x32768x128_d2)
    (broadcastInDim S4x32768x128 ![] bcast_S_S4x32768x128 (constant S_ .f32 0x00000000#32))

/-- Cutting off at zero, at an entry. -/
theorem cut_apply (x : FVec Ideal S4x32768x128 .f32) (s : Fin 4) (p : Fin 32768) (k : Fin 128) :
    maximumf x (broadcastInDim S4x32768x128 ![] bcast_S_S4x32768x128 (constant S_ .f32 0x00000000#32)) (ix3 s p k) = max (x (ix3 s p k)) 0 := by
  pointwise!

/-- The features of a node: the graph's half, then the node's own half, both cut off at zero. -/
theorem featA_apply (x y : FVec Ideal S4x32768x64 .f32) (s : Fin 4) (p : Fin 32768) (k : Fin 128) :
    featA x y (ix3 s p k) = feat (fun j => max (x (ix3 s p j)) 0) (fun j => max (y (ix3 s p j)) 0) k := by
  unfold featA
  refine (cut_apply _ s p k).trans ?_
  unfold feat
  by_cases h : k.val < 64
  · rw [dif_pos h]
    refine congrArg (max · 0) (concatenate_pair_apply_left (t := S4x32768x128) (s₁ := S4x32768x64) (s₂ := S4x32768x64) 2 _ _ _ (ix3 s p k) rfl
      (ix3 s p ⟨k.val, h⟩) ?_)
    intro a; fin_cases a <;> rfl
  · rw [dif_neg h]
    refine congrArg (max · 0) (concatenate_pair_apply_right (t := S4x32768x128) (s₁ := S4x32768x64) (s₂ := S4x32768x64) 2 _ _ _ (ix3 s p k) rfl rfl
      (ix3 s p ⟨k.val - 64, by omega⟩) ?_ ?_)
    · intro a ha
      fin_cases a
      · rfl
      · rfl
      · exact absurd rfl ha
    · show (k.val - 64) + 64 = k.val
      omega

end Cert.ReferenceIdeal.Blk

end
-- ==== Proof.Reference.lean ====
module

public import proofs.«01_k».proof.Proof.Steps
public import proofs.«01_k».proof.Proof.Features

@[expose] public section

set_option maxRecDepth 16384

/-! What the reference's result holds at a node, where the graph numbers are the nodes' places over 2048. -/

noncomputable section

namespace Cert.ReferenceIdeal.Blk

open Idealize.ShloMosaic Idealize.ShloMosaic.TcCoe Cert.ReferenceIdeal Cert.ReferenceIdeal.Gen Cert.ReferenceIdeal.Value Cert.Lstm
open Idealize.ShloMosaic.StableHlo

/-! ## The recurrence at a node -/

/-- One step at a node: from rows the recurrence has after `t` steps to the rows it has after `t + 1`. -/
theorem step_apply (w : Weights) (x : ℕ → Fin 128 → EReal) (t : ℕ) (X h c : FVec Ideal S32768x128 .f32)
    (a7 a8 : FVec Ideal S512x128 .f32) (a9 a10 : FVec Ideal S512 .f32) (p : Fin 32768)
    (hg : ∀ X h r, gatesA X h a7 a8 a9 a10 (ix2 p r) = gate w (fun k => X (ix2 p k)) (fun k => h (ix2 p k)) r)
    (hX : ∀ k, X (ix2 p k) = x t k) (hc : ∀ k, c (ix2 p k) = (st w x t).1 k) (hh : ∀ k, h (ix2 p k) = (st w x t).2 k) :
    (∀ k, cellA (gatesA X h a7 a8 a9 a10) c (ix2 p k) = (st w x (t + 1)).1 k)
      ∧ ∀ k, hidA (gatesA X h a7 a8 a9 a10) (cellA (gatesA X h a7 a8 a9 a10) c) (ix2 p k) = (st w x (t + 1)).2 k := by
  have eg : (fun r => gatesA X h a7 a8 a9 a10 (ix2 p r)) = gate w (x t) (st w x t).2 := by
    funext r
    rw [hg, funext hX, funext hh]
  have ec : ∀ k, cellA (gatesA X h a7 a8 a9 a10) c (ix2 p k) = (st w x (t + 1)).1 k := by
    intro k
    rw [cellA_apply, eg, funext hc]
    rfl
  refine ⟨ec, fun k => ?_⟩
  rw [hidA_apply, eg, funext ec]
  rfl

/-- The rows of step 0. -/
theorem row0_apply (X : FVec Ideal S4x32768x128 .f32) (p : Fin 32768) (k : Fin 128) :
    (shapeCast _ (extractStridedSlice S1x32768x128 ![0, 0, 0] X slices_S4x32768x128_S1x32768x128_0_0_0) shapeCasts_S1x32768x128_S32768x128
      : FVec Ideal S32768x128 .f32) (ix2 p k) = X (ix3 0 p k) := by
  pointwise!

/-- The rows of step 1. -/
theorem row1_apply (X : FVec Ideal S4x32768x128 .f32) (p : Fin 32768) (k : Fin 128) :
    (shapeCast _ (extractStridedSlice S1x32768x128 ![1, 0, 0] X slices_S4x32768x128_S1x32768x128_1_0_0) shapeCasts_S1x32768x128_S32768x128
      : FVec Ideal S32768x128 .f32) (ix2 p k) = X (ix3 1 p k) := by
  pointwise!

/-- The rows of step 2. -/
theorem row2_apply (X : FVec Ideal S4x32768x128 .f32) (p : Fin 32768) (k : Fin 128) :
    (shapeCast _ (extractStridedSlice S1x32768x128 ![2, 0, 0] X slices_S4x32768x128_S1x32768x128_2_0_0) shapeCasts_S1x32768x128_S32768x128
      : FVec Ideal S32768x128 .f32) (ix2 p k) = X (ix3 2 p k) := by
  pointwise!

/-- The rows of step 3. -/
theorem row3_apply (X : FVec Ideal S4x32768x128 .f32) (p : Fin 32768) (k : Fin 128) :
    (shapeCast _ (extractStridedSlice S1x32768x128 ![3, 0, 0] X slices_S4x32768x128_S1x32768x128_3_0_0) shapeCasts_S1x32768x128_S32768x128
      : FVec Ideal S32768x128 .f32) (ix2 p k) = X (ix3 3 p k) := by
  pointwise!

/-! ## The scores -/

/-- The four steps' hidden rows, one step below the other. -/
def stackA (h0 h1 h2 h3 : FVec Ideal S32768x128 .f32) : FVec Ideal S4x32768x128 .f32 :=
  concatenate S4x32768x128 0 [⟨S1x32768x128, (broadcastInDim S1x32768x128 ![1, 2] bcast_S32768x128_S1x32768x128_1_2 h0 : FVec Ideal S1x32768x128 .f32)⟩,
    ⟨S1x32768x128, (broadcastInDim S1x32768x128 ![1, 2] bcast_S32768x128_S1x32768x128_1_2 h1 : FVec Ideal S1x32768x128 .f32)⟩,
    ⟨S1x32768x128, (broadcastInDim S1x32768x128 ![1, 2] bcast_S32768x128_S1x32768x128_1_2 h2 : FVec Ideal S1x32768x128 .f32)⟩,
    ⟨S1x32768x128, (broadcastInDim S1x32768x128 ![1, 2] bcast_S32768x128_S1x32768x128_1_2 h3 : FVec Ideal S1x32768x128 .f32)⟩]
    concatenates_S1x32768x128_S1x32768x128_S1x32768x128_S1x32768x128_S4x32768x128_d0

/-- The stack at step `t` is the hidden rows of step `t`. -/
theorem stackA_apply (h0 h1 h2 h3 : FVec Ideal S32768x128 .f32) (t : Fin 4) (p : Fin 32768) (k : Fin 128) :
    stackA h0 h1 h2 h3 (ix3 t p k) = (![h0, h1, h2, h3] t) (ix2 p k) := by
  unfold stackA
  fin_vals t with ht
  · obtain rfl : t = 0 := Fin.ext ht
    pointwise!
  · obtain rfl : t = 1 := Fin.ext ht
    pointwise!
  · obtain rfl : t = 2 := Fin.ext ht
    pointwise!
  · obtain rfl : t = 3 := Fin.ext ht
    pointwise!

/-- The scores of all nodes at all steps, `⊥` where a node is not reached. -/
def outA (a0 : FVec Ideal S4x32768x67 .f32) (a5 : FVec Ideal S1x128 .f32) (a6 : FVec Ideal S1 .f32) (H : FVec Ideal S4x32768x128 .f32) :
    FVec Ideal S4x32768 .f32 :=
  select (cmpf .ogt (shapeCast _ (extractStridedSlice S4x32768x1 ![0, 0, 65] a0 slices_S4x32768x67_S4x32768x1_0_0_65) shapeCasts_S4x32768x1_S4x32768)
      (broadcastInDim S4x32768 ![] bcast_S_S4x32768 (constant S_ .f32 0x3F000000#32)))
    (shapeCast _ (addf (Host.dotGeneral dot_S4x32768x128_S128x1_S4x32768x1_2_0_01_1_n_n none
        (maximumf H (broadcastInDim S4x32768x128 ![] bcast_S_S4x32768x128 (constant S_ .f32 0x00000000#32)))
        (transpose S128x1 [1, 0] a5 transposes_S1x128_S128x1_1_0))
      (broadcastInDim S4x32768x1 ![0, 1, 2] bcast_S1x1x1_S4x32768x1_0_1_2 (broadcastInDim S1x1x1 ![2] bcast_S1_S1x1x1_2 a6))) shapeCasts_S4x32768x1_S4x32768)
    (broadcastInDim S4x32768 ![] bcast_S_S4x32768 (id (constant S_ .f32 0xFF800000#32)))

/-- The masked score of a node at step `t`. -/
theorem outA_apply (a0 : FVec Ideal S4x32768x67 .f32) (a5 : FVec Ideal S1x128 .f32) (a6 : FVec Ideal S1 .f32) (H : FVec Ideal S4x32768x128 .f32)
    (t : Fin 4) (p : Fin 32768) :
    outA a0 a5 a6 H (ix2 t p)
      = Cert.KernelIdeal.Blk.masked (a0 (ix3 t p 65)) (∑ k : Fin 128, max (H (ix3 t p k)) 0 * a5 (ix2 0 k) + a6 (ix1 0)) := by
  unfold outA Cert.KernelIdeal.Blk.masked
  rw [← ofBits_half, ← ofBits_neg_inf]
  pointwise!

/-! ## The whole -/

/-- The graph numbers the reference reads off step 0. -/
def idsA (a0 : FVec Ideal S4x32768x67 .f32) : IVec S32768x1 32 :=
  broadcastInDim S32768x1 ![0] bcast_S32768_S32768x1_0 (shapeCast _ (extractStridedSlice S1x32768 ![0, 0]
    (fptosi 32 (shapeCast _ (extractStridedSlice S4x32768x1 ![0, 0, 64] a0 slices_S4x32768x67_S4x32768x1_0_0_64) shapeCasts_S4x32768x1_S4x32768))
    slices_S4x32768_S1x32768_0_0) shapeCasts_S1x32768_S32768)

/-- A node's graph number is column 64 of step 0, as an integer. -/
theorem idsA_apply (a0 : FVec Ideal S4x32768x67 .f32) (n : Fin 32768) : idsA a0 (ix2 n 0) = Ideal.fptosi 32 (a0 (ix3 0 n 64)) := by
  unfold idsA
  pointwise!

/-- The features the reference computes. -/
def featsA (a0 : FVec Ideal S4x32768x67 .f32) (a1 : FVec Ideal S64x64 .f32) (a2 : FVec Ideal S64 .f32) (a3 : FVec Ideal S64x64 .f32)
    (a4 : FVec Ideal S64 .f32) : FVec Ideal S4x32768x128 .f32 :=
  featA (layerA (spreadA (meanA (idsA a0) a0)) a1 a2) (layerA (muA a0) a3 a4)

/-- Where the graph numbers are the nodes' places over 2048, the features of a node: from its graph's mean and from its own row. -/
theorem featsA_apply (a0 : FVec Ideal S4x32768x67 .f32) (h : ByGraph (idsA a0)) (a1 : FVec Ideal S64x64 .f32) (a2 : FVec Ideal S64 .f32)
    (a3 : FVec Ideal S64x64 .f32) (a4 : FVec Ideal S64 .f32) (a5 : FVec Ideal S1x128 .f32) (a6 : FVec Ideal S1 .f32) (a7 a8 : FVec Ideal S512x128 .f32)
    (a9 a10 : FVec Ideal S512 .f32) (s : Fin 4) (b : Fin 16) (n : Fin 2048) (k : Fin 128) :
    featsA a0 a1 a2 a3 a4 (ix3 s (nodeAt b n) k) = featOf (weightsOf a1 a2 a3 a4 a5 a6 a7 a8 a9 a10) a0 b n s.val k := by
  have e : stepIx s.val = s := Fin.ext (Nat.mod_eq_of_lt s.isLt)
  unfold featsA featOf
  rw [featA_apply]
  refine congrArg₂ (feat · · k) ?_ ?_
  · funext j
    rw [layerA_apply]
    unfold globRow
    refine congrArg (max · 0) (congrArg₂ (· + ·) (Finset.sum_congr rfl fun i _ => congrArg₂ (· * ·) ?_ rfl) rfl)
    rw [spreadA_apply, meanA_apply _ h]
  · funext j
    rw [layerA_apply]
    unfold locRow ownOf
    rw [e]
    exact congrArg (max · 0) (congrArg₂ (· + ·) (Finset.sum_congr rfl fun i _ => congrArg₂ (· * ·) (muA_apply _ _ _ _) rfl) rfl)

/-- What the reference computes from its eleven arguments. -/
def resultA (a0 : FVec Ideal S4x32768x67 .f32) (a1 : FVec Ideal S64x64 .f32) (a2 : FVec Ideal S64 .f32) (a3 : FVec Ideal S64x64 .f32)
    (a4 : FVec Ideal S64 .f32) (a5 : FVec Ideal S1x128 .f32) (a6 : FVec Ideal S1 .f32) (a7 a8 : FVec Ideal S512x128 .f32)
    (a9 a10 : FVec Ideal S512 .f32) : FVec Ideal S4x32768 .f32 :=
  fun i =>
  let X := featsA a0 a1 a2 a3 a4
  let g0 := gatesA (shapeCast _ (extractStridedSlice S1x32768x128 ![0, 0, 0] X slices_S4x32768x128_S1x32768x128_0_0_0)
    shapeCasts_S1x32768x128_S32768x128) zeroA a7 a8 a9 a10
  let c0 := cellA g0 zeroA
  let g1 := gatesA (shapeCast _ (extractStridedSlice S1x32768x128 ![1, 0, 0] X slices_S4x32768x128_S1x32768x128_1_0_0)
    shapeCasts_S1x32768x128_S32768x128) (hidA g0 c0) a7 a8 a9 a10
  let c1 := cellA g1 c0
  let g2 := gatesA (shapeCast _ (extractStridedSlice S1x32768x128 ![2, 0, 0] X slices_S4x32768x128_S1x32768x128_2_0_0)
    shapeCasts_S1x32768x128_S32768x128) (hidA g1 c1) a7 a8 a9 a10
  let c2 := cellA g2 c1
  let g3 := gatesA (shapeCast _ (extractStridedSlice S1x32768x128 ![3, 0, 0] X slices_S4x32768x128_S1x32768x128_3_0_0)
    shapeCasts_S1x32768x128_S32768x128) (hidA g2 c2) a7 a8 a9 a10
  outA a0 a5 a6 (stackA (hidA g0 c0) (hidA g1 c1) (hidA g2 c2) (hidA g3 (cellA g3 c2))) i

/-- Where the graph numbers are the nodes' places over 2048, the reference's result at a node is the masked score of that node. -/
theorem resultA_apply (a0 : FVec Ideal S4x32768x67 .f32) (hids : ByGraph (idsA a0)) (a1 : FVec Ideal S64x64 .f32) (a2 : FVec Ideal S64 .f32)
    (a3 : FVec Ideal S64x64 .f32) (a4 : FVec Ideal S64 .f32) (a5 : FVec Ideal S1x128 .f32) (a6 : FVec Ideal S1 .f32) (a7 a8 : FVec Ideal S512x128 .f32)
    (a9 a10 : FVec Ideal S512 .f32) (t : Fin 4) (b : Fin 16) (n : Fin 2048) :
    resultA a0 a1 a2 a3 a4 a5 a6 a7 a8 a9 a10 (ix2 t (nodeAt b n)) = resultAt (weightsOf a1 a2 a3 a4 a5 a6 a7 a8 a9 a10) a0 t b n := by
  unfold resultA
  beta_reduce
  extract_lets X g0 c0 g1 c1 g2 c2 g3
  have hX : ∀ (s : Fin 4) (k : Fin 128), X (ix3 s (nodeAt b n) k) = featOf (weightsOf a1 a2 a3 a4 a5 a6 a7 a8 a9 a10) a0 b n s.val k :=
    fun s k => featsA_apply a0 hids a1 a2 a3 a4 a5 a6 a7 a8 a9 a10 s b n k
  have hg : ∀ Y h r, gatesA Y h a7 a8 a9 a10 (ix2 (nodeAt b n) r) = gate (weightsOf a1 a2 a3 a4 a5 a6 a7 a8 a9 a10)
      (fun k => Y (ix2 (nodeAt b n) k)) (fun k => h (ix2 (nodeAt b n) k)) r :=
    fun Y h r => gatesA_apply Y h a1 a2 a3 a4 a5 a6 a7 a8 a9 a10 (nodeAt b n) r
  unfold resultAt
  have hW : ∀ k, (weightsOf a1 a2 a3 a4 a5 a6 a7 a8 a9 a10).W5 k = a5 (ix2 0 k) := fun _ => rfl
  have hb : (weightsOf a1 a2 a3 a4 a5 a6 a7 a8 a9 a10).b5 = a6 (ix1 0) := rfl
  generalize weightsOf a1 a2 a3 a4 a5 a6 a7 a8 a9 a10 = w at hX hg hW hb ⊢
  have h0 := step_apply w (featOf w a0 b n) 0 _ zeroA zeroA a7 a8 a9 a10 (nodeAt b n) hg (fun k => (row0_apply X _ k).trans (hX 0 k))
    (fun k => zeroA_apply _ k) (fun k => zeroA_apply _ k)
  have h1 := step_apply w (featOf w a0 b n) 1 _ (hidA g0 c0) c0 a7 a8 a9 a10 (nodeAt b n) hg (fun k => (row1_apply X _ k).trans (hX 1 k)) h0.1 h0.2
  have h2 := step_apply w (featOf w a0 b n) 2 _ (hidA g1 c1) c1 a7 a8 a9 a10 (nodeAt b n) hg (fun k => (row2_apply X _ k).trans (hX 2 k)) h1.1 h1.2
  have h3 := step_apply w (featOf w a0 b n) 3 _ (hidA g2 c2) c2 a7 a8 a9 a10 (nodeAt b n) hg (fun k => (row3_apply X _ k).trans (hX 3 k)) h2.1 h2.2
  have hH : ∀ k, stackA (hidA g0 c0) (hidA g1 c1) (hidA g2 c2) (hidA g3 (cellA g3 c2)) (ix3 t (nodeAt b n) k) = (st w (featOf w a0 b n) (t.val + 1)).2 k := by
    intro k
    rw [stackA_apply]
    fin_vals t with ht
    · obtain rfl : t = 0 := Fin.ext ht
      exact h0.2 k
    · obtain rfl : t = 1 := Fin.ext ht
      exact h1.2 k
    · obtain rfl : t = 2 := Fin.ext ht
      exact h2.2 k
    · obtain rfl : t = 3 := Fin.ext ht
      exact h3.2 k
  rw [outA_apply]
  unfold score
  simp only [hH, hW, hb]

end Cert.ReferenceIdeal.Blk

end
-- ==== Proof.Numbers.lean ====
module

public import proofs.«01_k».proof.Proof.Reference
public import proofs.«01_k».proof.Pre_nodes_by_graph

@[expose] public section

set_option maxRecDepth 16384

/-! What the precondition `nodes_by_graph` says: the graph numbers are the nodes' places over 2048. -/

noncomputable section

namespace Cert.ReferenceIdeal.Blk

open Idealize.ShloMosaic Idealize.ShloMosaic.TcCoe Cert.ReferenceIdeal Cert.ReferenceIdeal.Gen Cert.Lstm

/-- The shape relations the predicate's operations take. -/
theorem pre_facts : Cert.Pre_nodes_by_graph.Facts where
  slices_S4x32768x67_S1x32768x1_0_0_64 := by decide
  shapeCasts_S1x32768x1_S32768 := by decide
  shapeCasts_S16x2048_S32768 := by decide

/-- The predicate at a node compares the node's graph number with its place over 2048. -/
theorem pre_apply (hF : Cert.Pre_nodes_by_graph.Facts) (a0 : FVec Ideal S4x32768x67 .f32) (a1 : FVec Ideal S64x64 .f32) (a2 : FVec Ideal S64 .f32)
    (a3 : FVec Ideal S64x64 .f32) (a4 : FVec Ideal S64 .f32) (a5 : FVec Ideal S1x128 .f32) (a6 : FVec Ideal S1 .f32) (a7 a8 : FVec Ideal S512x128 .f32)
    (a9 a10 : FVec Ideal S512 .f32) (n : Fin 32768) :
    Cert.Pre_nodes_by_graph.fn a0 a1 a2 a3 a4 a5 a6 a7 a8 a9 a10 (ix1 n)
      = IntOp.cmpi .eq (Ideal.fptosi 32 (a0 (ix3 0 n 64))) (BitVec.ofNat 32 (n.val / 2048)) := by
  unfold Cert.Pre_nodes_by_graph.fn
  pointwise!

/-- Two words that compare equal are equal. -/
theorem eq_of_cmpi {x y : BitVec 32} (h : IntOp.cmpi .eq x y = 1#1) : x = y := by
  have h' : BitVec.ofBool (x == y) = 1#1 := h
  cases hxy : x == y
  · rw [hxy] at h'
    exact absurd h' (by decide)
  · exact eq_of_beq hxy

/-- A node's place over 2048, as a word, reads as itself. -/
theorem toInt_ofNat_place (n : Fin 32768) : (BitVec.ofNat 32 (n.val / 2048)).toInt = ((n.val / 2048 : ℕ) : ℤ) := by
  have h : n.val / 2048 < 16 := by omega
  generalize n.val / 2048 = q at h
  rw [BitVec.toInt_eq_toNat_of_lt (by rw [BitVec.toNat_ofNat]; omega), BitVec.toNat_ofNat, Nat.mod_eq_of_lt (by omega)]

/-- Where the predicate is all ones, the graph numbers the reference reads are the nodes' places over 2048. -/
theorem byGraph_of_pre (hF : Cert.Pre_nodes_by_graph.Facts) (a0 : FVec Ideal S4x32768x67 .f32) (a1 : FVec Ideal S64x64 .f32) (a2 : FVec Ideal S64 .f32)
    (a3 : FVec Ideal S64x64 .f32) (a4 : FVec Ideal S64 .f32) (a5 : FVec Ideal S1x128 .f32) (a6 : FVec Ideal S1 .f32) (a7 a8 : FVec Ideal S512x128 .f32)
    (a9 a10 : FVec Ideal S512 .f32) (h : Cert.Pre_nodes_by_graph.fn a0 a1 a2 a3 a4 a5 a6 a7 a8 a9 a10 = fun _ => 1#1) : ByGraph (idsA a0) := by
  intro n
  have hn := congrFun h (ix1 n)
  rw [pre_apply] at hn
  rw [idsA_apply]
  rw [eq_of_cmpi hn]
  exact toInt_ofNat_place n

end Cert.ReferenceIdeal.Blk

end
-- ==== Proof.Result.lean ====
module

public import proofs.«01_k».proof.Proof.Array
public import proofs.«01_k».proof.Proof.Numbers

@[expose] public section

set_option maxRecDepth 16384

/-! The kernel's array is the reference's, where the graph numbers are the nodes' places over 2048. -/

noncomputable section

namespace Cert.KernelIdeal.Blk

open Idealize.ShloMosaic Idealize.ShloMosaic.TcCoe Cert.KernelIdeal Cert.KernelIdeal.Gen Cert.Lstm

/-- Every node is a place in one of the 16 graphs. -/
theorem eq_nodeAt (p : Fin 32768) : p = nodeAt ⟨p.val / 2048, by omega⟩ ⟨p.val % 2048, by omega⟩ := by
  apply Fin.ext
  show p.val = 2048 * (p.val / 2048) + p.val % 2048
  omega

/-- The array the kernel's result ends holding is what the reference computes from the kernel's arguments. -/
theorem G11_eq (m : (ℓ : Loc nD τ Cert.KernelIdeal.sig) → Buf (Elt Ideal) ℓ) (c : Dev nD)
    (h : Cert.ReferenceIdeal.Blk.ByGraph (Cert.ReferenceIdeal.Blk.idsA (m ((c : Thread nD τ).loc main_arg0)))) :
    Cert.ReferenceIdeal.Blk.resultA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) = Value.G11 m c := by
  funext j
  idx_vars j
  rw [eq_nodeAt j1, Cert.ReferenceIdeal.Blk.resultA_apply _ h]
  exact (G11_apply m c j0 _ _).symm

end Cert.KernelIdeal.Blk

namespace Cert.ReferenceIdeal.Blk

open Idealize.ShloMosaic Idealize.ShloMosaic.TcCoe Cert.ReferenceIdeal Cert.ReferenceIdeal.Gen Cert.Lstm

/-- The reference runs; its result ends holding `resultA` of its arguments, the arguments unchanged. -/
theorem run_result (m : (ℓ : Loc nD τ Cert.ReferenceIdeal.sig) → Buf (Elt Ideal) ℓ) (ρ : Dev nD → PrngReg) :
    Idealize.ShloMosaic.θ_run Cert.ReferenceIdeal.defs (onTc (τ := τ) (main (F := Ideal))) ⟨m, fun _ => 0, ρ⟩ fun r => ∀ c : Dev nD,
      r.2.mem ((c.tc : Thread nD τ).loc main_v213) = resultA (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) :=
  θ_run_mono (Cert.ReferenceIdeal.Value.run m ρ) fun r h c => (h c).1.trans rfl

end Cert.ReferenceIdeal.Blk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem

instance preFacts : Cert.Pre_nodes_by_graph.Facts := Cert.ReferenceIdeal.Blk.pre_facts

/-- The kernel, as printed, runs and leaves its arguments unchanged and every counter at zero. -/
theorem frame_kernel : Cert.quiescent_Kernel := fun m g _ => Cert.Kernel.Gen.frame m g

/-- The idealized kernel likewise. -/
theorem frame_kernelIdeal : Cert.quiescent_KernelIdeal := fun m g _ => Cert.KernelIdeal.Gen.frame m g

/-- The idealized reference likewise: it is host operations only, and declares no semaphore. -/
theorem frame_referenceIdeal : Cert.quiescent_ReferenceIdeal := fun m g _ =>
  θ_run_mono (Cert.ReferenceIdeal.Value.run m g) fun r h =>
    ⟨fun c => (h c).2, Idealize.ShloMosaic.sem_eq_zero_of_no_sems (by decide) r.2⟩

/-- Where `nodes_by_graph` holds, the idealized kernel and the idealized reference end holding one array. -/
theorem algebraic : Cert.algebraic_KernelIdeal_ReferenceIdeal_pre_nodes_by_graph := by
  intro m g m' g' hpre hagree
  refine ⟨fun c => Cert.KernelIdeal.Value.G11 m c, Cert.KernelIdeal.Value.run m g, ?_⟩
  refine θ_run_mono (θ_run_and (Cert.ReferenceIdeal.Value.run m' g') (Cert.ReferenceIdeal.Blk.run_result m' g')) ?_
  rintro r ⟨hargs, hres⟩ c
  refine ⟨?_, (hargs c).2⟩
  obtain ⟨e0, e1, e2, e3, e4, e5, e6, e7, e8, e9, e10⟩ := hagree c
  rw [hres c, e0, e1, e2, e3, e4, e5, e6, e7, e8, e9, e10]
  exact Cert.KernelIdeal.Blk.G11_eq m c (Cert.ReferenceIdeal.Blk.byGraph_of_pre _ _ _ _ _ _ _ _ _ _ _ _ (hpre c))

theorem claim : Cert.Claim :=
  ⟨Cert.Kernel.Gen.facts, Cert.KernelIdeal.Gen.facts, Cert.ReferenceIdeal.Gen.facts, preFacts,
    frame_kernel, frame_kernelIdeal, fun m g _ => frame_kernelIdeal m g trivial, frame_referenceIdeal,
    fun m g _ => frame_referenceIdeal m g trivial, trivial, algebraic⟩

end Cert.Proof

end
